-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v3)) (v4 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_v4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v54_0) = v1 c
          ∧ r.2.mem ((c.tc : Thread Cert.ReferenceIdeal.nD Cert.ReferenceIdeal.τ).loc Cert.ReferenceIdeal.main_v18) = v2 c
          ∧ r.2.mem ((c.tc : Thread Cert.ReferenceIdeal.nD Cert.ReferenceIdeal.τ).loc Cert.ReferenceIdeal.main_v54_1) = v3 c
          ∧ r.2.mem ((c.tc : Thread Cert.ReferenceIdeal.nD Cert.ReferenceIdeal.τ).loc Cert.ReferenceIdeal.main_v45) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x2048 : Shape := ⟨2, ![16384, 2048]⟩
abbrev S2x6144x2048 : Shape := ⟨3, ![2, 6144, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2x6144x2048 : S_.BroadcastsInDim S2x6144x2048 (![] : Fin 0 → Fin S2x6144x2048.rank)
  reducesTo_S2x6144x2048_S_d0_1_2 : S2x6144x2048.ReducesTo [0, 1, 2] S_

variable [Facts]

def fn {F : FTy → Type} [FloatOps F] (main_arg0 : FVec F S16384x2048 .bf16) (main_arg1 : FVec F S2x6144x2048 .bf16) : IVec S_ 1 :=
  let main_v0 : FVec F S16384x2048 .bf16 := Host.absf main_arg0
  let main_cst : FVec F S_ .bf16 := constant S_ .bf16 0x7F7F#16
  let main_v1 : FVec F S16384x2048 .bf16 := broadcastInDim S16384x2048 ![] bcast_S_S16384x2048 main_cst
  let main_v2 : IVec S16384x2048 1 := cmpf .ole main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2x6144x2048 .bf16 := Host.absf main_arg1
  let main_cst_0 : FVec F S_ .bf16 := constant S_ .bf16 0x7F7F#16
  let main_v5 : FVec F S2x6144x2048 .bf16 := broadcastInDim S2x6144x2048 ![] bcast_S_S2x6144x2048 main_cst_0
  let main_v6 : IVec S2x6144x2048 1 := cmpf .ole main_v4 main_v5
  let main_c_1 : IVec S_ 1 := constantI S_ 1 1#1
  let main_v7 : IVec S_ 1 := (fun x v => Host.reduce IntOp.andi x v reducesTo_S2x6144x2048_S_d0_1_2 h_S_) main_v6 main_c_1
  let main_v8 : IVec S_ 1 := andi main_v3 main_v7
  main_v8
-- ==== Kernel.lean ====
abbrev S16384x2048 : Shape := ⟨2, ![16384, 2048]⟩
abbrev S2x6144x2048 : Shape := ⟨3, ![2, 6144, 2048]⟩
abbrev S12288x2048 : Shape := ⟨2, ![12288, 2048]⟩
abbrev S12288x16384 : Shape := ⟨2, ![12288, 16384]⟩
abbrev S128x16 : Shape := ⟨2, ![128, 16]⟩
abbrev S12288x16 : Shape := ⟨2, ![12288, 16]⟩
abbrev S1024x2048 : Shape := ⟨2, ![1024, 2048]⟩
abbrev S1024x1024 : Shape := ⟨2, ![1024, 1024]⟩
abbrev S8x16 : Shape := ⟨2, ![8, 16]⟩
abbrev S1024x16 : Shape := ⟨2, ![1024, 16]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S256x16 : Shape := ⟨2, ![256, 16]⟩
abbrev S128x128 : Shape := ⟨2, ![128, 128]⟩
abbrev S1x128x128 : Shape := ⟨3, ![1, 128, 128]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S1x16 : Shape := ⟨2, ![1, 16]⟩
abbrev S2x6144x16384 : Shape := ⟨3, ![2, 6144, 16384]⟩
abbrev S2x6144x16 : Shape := ⟨3, ![2, 6144, 16]⟩

abbrev nBuf : Space → Nat
  | .hbm => 11
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2x6144x2048, .bf16⟩
  | .hbm, ⟨2, _⟩ => ⟨S12288x2048, .bf16⟩
  | .hbm, ⟨3, _⟩ => ⟨S12288x16384, .bf16⟩
  | .hbm, ⟨4, _⟩ => ⟨S16384x2048, .fp8e4m3⟩
  | .hbm, ⟨5, _⟩ => ⟨S128x16, .f32⟩
  | .hbm, ⟨6, _⟩ => ⟨S12288x2048, .fp8e5m2⟩
  | .hbm, ⟨7, _⟩ => ⟨S12288x16, .f32⟩
  | .hbm, ⟨8, _⟩ => ⟨S2x6144x16384, .bf16⟩
  | .hbm, ⟨9, _⟩ => ⟨S2x6144x2048, .fp8e5m2⟩
  | .hbm, ⟨10, _⟩ => ⟨S2x6144x16, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2048, .fp8e4m3⟩
  | .local _ .vmem, ⟨7, _⟩ => ⟨S1024x2048, .fp8e4m3⟩
  | .local _ .vmem, ⟨8, _⟩ => ⟨S8x16, .f32⟩
  | .local _ .vmem, ⟨9, _⟩ => ⟨S8x16, .f32⟩
  | .local _ .vmem, ⟨10, _⟩ => ⟨S1024x2048, .fp8e5m2⟩
  | .local _ .vmem, ⟨11, _⟩ => ⟨S1024x2048, .fp8e5m2⟩
  | .local _ .vmem, ⟨12, _⟩ => ⟨S1024x16, .f32⟩
  | .local _ .vmem, ⟨13, _⟩ => ⟨S1024x16, .f32⟩
  | .local _ .vmem, ⟨14, _⟩ => ⟨S1024x2048, .bf16⟩
  | .local _ .vmem, ⟨15, _⟩ => ⟨S1024x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v1_2 : Ref sig .tc := ⟨.hbm, 5, rfl⟩
abbrev main_v1_3 : Ref sig .tc := ⟨.hbm, 6, rfl⟩
abbrev main_v1_4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![12, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2300 : BitVec 32 := 0#32
  let c4_i32 : BitVec 32 := 4#32
  let v6552 : BitVec 32 := Scalar.addi c0_i32_2300 c4_i32
  let c1_i32 : BitVec 32 := 1#32
  ⟨c0_i32_2300, v6552, c1_i32⟩
def k0_mult1 (k0_t1 : Fin k0_t1_loop.trips) : BitVec 32 :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  v6553
def k0_off1 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6555 : Index := Scalar.indexCast v6554
  let c0_2302 : Index := 0#32
  ![v6555.toNat, 0]
def k0_off2 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6607 : Index := Scalar.indexCast v6554
  let c128_2317 : Index := 128#32
  ![v6607.toNat, 128]
def k0_off3 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6659 : Index := Scalar.indexCast v6554
  let c256_2332 : Index := 256#32
  ![v6659.toNat, 256]
def k0_off4 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6711 : Index := Scalar.indexCast v6554
  let c384_2347 : Index := 384#32
  ![v6711.toNat, 384]
def k0_off5 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6763 : Index := Scalar.indexCast v6554
  let c512_2362 : Index := 512#32
  ![v6763.toNat, 512]
def k0_off6 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6815 : Index := Scalar.indexCast v6554
  let c640_2377 : Index := 640#32
  ![v6815.toNat, 640]
def k0_off7 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6867 : Index := Scalar.indexCast v6554
  let c768_2392 : Index := 768#32
  ![v6867.toNat, 768]
def k0_off8 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6919 : Index := Scalar.indexCast v6554
  let c896_2407 : Index := 896#32
  ![v6919.toNat, 896]
def k0_off9 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v6971 : Index := Scalar.indexCast v6554
  let c1024_2422 : Index := 1024#32
  ![v6971.toNat, 1024]
def k0_off10 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7023 : Index := Scalar.indexCast v6554
  let c1152_2437 : Index := 1152#32
  ![v7023.toNat, 1152]
def k0_off11 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7075 : Index := Scalar.indexCast v6554
  let c1280_2452 : Index := 1280#32
  ![v7075.toNat, 1280]
def k0_off12 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7127 : Index := Scalar.indexCast v6554
  let c1408_2467 : Index := 1408#32
  ![v7127.toNat, 1408]
def k0_off13 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7179 : Index := Scalar.indexCast v6554
  let c1536_2482 : Index := 1536#32
  ![v7179.toNat, 1536]
def k0_off14 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7231 : Index := Scalar.indexCast v6554
  let c1664_2497 : Index := 1664#32
  ![v7231.toNat, 1664]
def k0_off15 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7283 : Index := Scalar.indexCast v6554
  let c1792_2512 : Index := 1792#32
  ![v7283.toNat, 1792]
def k0_off16 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7335 : Index := Scalar.indexCast v6554
  let c1920_2527 : Index := 1920#32
  ![v7335.toNat, 1920]
def k0_off17 (k0_t1 : Fin k0_t1_loop.trips) : Fin 2 → Nat :=
  let c0_i32_2300 : BitVec 32 := 0#32
  let c1_i32 : BitVec 32 := 1#32
  let arg11 : BitVec 32 := Scf.iv c0_i32_2300 c1_i32 k0_t1
  let c256_i32 : BitVec 32 := 256#32
  let v6553 : BitVec 32 := Scalar.muli arg11 c256_i32
  let v6554 : BitVec 32 := v6553
  let v7388 : Index := Scalar.indexCast v6554
  let c0_2542 : Index := 0#32
  ![v7388.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S8x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .fp8e5m2 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S16384x2048 : Shape := ⟨2, ![16384, 2048]⟩
abbrev S2x6144x2048 : Shape := ⟨3, ![2, 6144, 2048]⟩
abbrev S128x128x16x128 : Shape := ⟨4, ![128, 128, 16, 128]⟩
abbrev S_ : Shape := ⟨0, ![]⟩
abbrev S128x16 : Shape := ⟨2, ![128, 16]⟩
abbrev S128x1x16x1 : Shape := ⟨4, ![128, 1, 16, 1]⟩
abbrev S2x6144x16x128 : Shape := ⟨4, ![2, 6144, 16, 128]⟩
abbrev S2x6144x16 : Shape := ⟨3, ![2, 6144, 16]⟩
abbrev S2x6144x16x1 : Shape := ⟨4, ![2, 6144, 16, 1]⟩
abbrev S2x6144x16384 : Shape := ⟨3, ![2, 6144, 16384]⟩

abbrev nBuf : Space → Nat
  | .hbm => 108
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x6144x2048, .bf16⟩
  | .hbm, ⟨2, _⟩ => ⟨S16384x2048, .f32⟩
  | .hbm, ⟨3, _⟩ => ⟨S128x128x16x128, .f32⟩
  | .hbm, ⟨4, _⟩ => ⟨S128x128x16x128, .f32⟩
  | .hbm, ⟨5, _⟩ => ⟨S_, .f32⟩
  | .hbm, ⟨6, _⟩ => ⟨S128x16, .f32⟩
  | .hbm, ⟨7, _⟩ => ⟨S_, .f32⟩
  | .hbm, ⟨8, _⟩ => ⟨S128x16, .f32⟩
  | .hbm, ⟨9, _⟩ => ⟨S128x16, .f32⟩
  | .hbm, ⟨10, _⟩ => ⟨S128x16, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128x16, .f32⟩
  | .hbm, ⟨15, _⟩ => ⟨S128x16, .f32⟩
  | .hbm, ⟨16, _⟩ => ⟨S128x16, .f32⟩
  | .hbm, ⟨17, _⟩ => ⟨S_, .f32⟩
  | .hbm, ⟨18, _⟩ => ⟨S128x16, .f32⟩
  | .hbm, ⟨19, _⟩ => ⟨S128x16, .f32⟩
  | .hbm, ⟨20, _⟩ => ⟨S_, .f32⟩
  | .hbm, ⟨21, _⟩ => ⟨S128x16, .f32⟩
  | .hbm, ⟨22, _⟩ => ⟨S128x16, .i1⟩
  | .hbm, ⟨23, _⟩ => ⟨S_, .f32⟩
  | .hbm, ⟨24, _⟩ => ⟨S_, .f32⟩
  | .hbm, ⟨25, _⟩ => ⟨S128x16, .f32⟩
  | .hbm, ⟨26, _⟩ => ⟨S128x16, .f32⟩
  | .hbm, ⟨27, _⟩ => ⟨S_, .f32⟩
  | .hbm, ⟨28, _⟩ => ⟨S128x16, .f32⟩
  | .hbm, ⟨29, _⟩ => ⟨S128x16, .f32⟩
  | .hbm, ⟨30, _⟩ => ⟨S128x16, .f32⟩
  | .hbm, ⟨31, _⟩ => ⟨S_, .f32⟩
  | .hbm, ⟨32, _⟩ => ⟨S128x16, .f32⟩
  | .hbm, ⟨33, _⟩ => ⟨S128x16, .f32⟩
  | .hbm, ⟨34, _⟩ => ⟨S128x1x16x1, .f32⟩
  | .hbm, ⟨35, _⟩ => ⟨S128x128x16x128, .f32⟩
  | .hbm, ⟨36, _⟩ => ⟨S128x128x16x128, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S128x128x16x128, .f32⟩
  | .hbm, ⟨41, _⟩ => ⟨S128x128x16x128, .f32⟩
  | .hbm, ⟨42, _⟩ => ⟨S_, .f32⟩
  | .hbm, ⟨43, _⟩ => ⟨S128x128x16x128, .f32⟩
  | .hbm, ⟨44, _⟩ => ⟨S128x128x16x128, .f32⟩
  | .hbm, ⟨45, _⟩ => ⟨S16384x2048, .f32⟩
  | .hbm, ⟨46, _⟩ => ⟨S2x6144x2048, .f32⟩
  | .hbm, ⟨47, _⟩ => ⟨S2x6144x16x128, .f32⟩
  | .hbm, ⟨48, _⟩ => ⟨S2x6144x16x128, .f32⟩
  | .hbm, ⟨49, _⟩ => ⟨S_, .f32⟩
  | .hbm, ⟨50, _⟩ => ⟨S2x6144x16, .f32⟩
  | .hbm, ⟨51, _⟩ => ⟨S_, .f32⟩
  | .hbm, ⟨52, _⟩ => ⟨S2x6144x16, .f32⟩
  | .hbm, ⟨53, _⟩ => ⟨S2x6144x16, .f32⟩
  | .hbm, ⟨54, _⟩ => ⟨S2x6144x16, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S2x6144x16, .f32⟩
  | .hbm, ⟨59, _⟩ => ⟨S2x6144x16, .f32⟩
  | .hbm, ⟨60, _⟩ => ⟨S2x6144x16, .f32⟩
  | .hbm, ⟨61, _⟩ => ⟨S_, .f32⟩
  | .hbm, ⟨62, _⟩ => ⟨S2x6144x16, .f32⟩
  | .hbm, ⟨63, _⟩ => ⟨S2x6144x16, .f32⟩
  | .hbm, ⟨64, _⟩ => ⟨S_, .f32⟩
  | .hbm, ⟨65, _⟩ => ⟨S2x6144x16, .f32⟩
  | .hbm, ⟨66, _⟩ => ⟨S2x6144x16, .i1⟩
  | .hbm, ⟨67, _⟩ => ⟨S_, .f32⟩
  | .hbm, ⟨68, _⟩ => ⟨S_, .f32⟩
  | .hbm, ⟨69, _⟩ => ⟨S2x6144x16, .f32⟩
  | .hbm, ⟨70, _⟩ => ⟨S2x6144x16, .f32⟩
  | .hbm, ⟨71, _⟩ => ⟨S_, .f32⟩
  | .hbm, ⟨72, _⟩ => ⟨S2x6144x16, .f32⟩
  | .hbm, ⟨73, _⟩ => ⟨S2x6144x16, .f32⟩
  | .hbm, ⟨74, _⟩ => ⟨S2x6144x16, .f32⟩
  | .hbm, ⟨75, _⟩ => ⟨S_, .f32⟩
  | .hbm, ⟨76, _⟩ => ⟨S2x6144x16, .f32⟩
  | .hbm, ⟨77, _⟩ => ⟨S2x6144x16, .f32⟩
  | .hbm, ⟨78, _⟩ => ⟨S2x6144x16x1, .f32⟩
  | .hbm, ⟨79, _⟩ => ⟨S2x6144x16x128, .f32⟩
  | .hbm, ⟨80, _⟩ => ⟨S2x6144x16x128, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S2x6144x16x128, .f32⟩
  | .hbm, ⟨85, _⟩ => ⟨S2x6144x16x128, .f32⟩
  | .hbm, ⟨86, _⟩ => ⟨S_, .f32⟩
  | .hbm, ⟨87, _⟩ => ⟨S2x6144x16x128, .f32⟩
  | .hbm, ⟨88, _⟩ => ⟨S2x6144x16x128, .f32⟩
  | .hbm, ⟨89, _⟩ => ⟨S2x6144x2048, .f32⟩
  | .hbm, ⟨90, _⟩ => ⟨S16384x2048, .fp8e4m3⟩
  | .hbm, ⟨91, _⟩ => ⟨S2x6144x2048, .fp8e5m2⟩
  | .hbm, ⟨92, _⟩ => ⟨S16384x2048, .bf16⟩
  | .hbm, ⟨93, _⟩ => ⟨S2x6144x2048, .bf16⟩
  | .hbm, ⟨94, _⟩ => ⟨S128x128x16x128, .bf16⟩
  | .hbm, ⟨95, _⟩ => ⟨S128x16, .bf16⟩
  | .hbm, ⟨96, _⟩ => ⟨S128x1x16x1, .bf16⟩
  | .hbm, ⟨97, _⟩ => ⟨S128x128x16x128, .bf16⟩
  | .hbm, ⟨98, _⟩ => ⟨S128x128x16x128, .bf16⟩
  | .hbm, ⟨99, _⟩ => ⟨S16384x2048, .bf16⟩
  | .hbm, ⟨100, _⟩ => ⟨S2x6144x16x128, .bf16⟩
  | .hbm, ⟨101, _⟩ => ⟨S2x6144x16, .bf16⟩
  | .hbm, ⟨102, _⟩ => ⟨S2x6144x16x1, .bf16⟩
  | .hbm, ⟨103, _⟩ => ⟨S2x6144x16x128, .bf16⟩
  | .hbm, ⟨104, _⟩ => ⟨S2x6144x16x128, .bf16⟩
  | .hbm, ⟨105, _⟩ => ⟨S2x6144x2048, .bf16⟩
  | .hbm, ⟨106, _⟩ => ⟨S2x6144x16384, .f32⟩
  | .hbm, ⟨107, _⟩ => ⟨S2x6144x16384, .bf16⟩
  | .local _ .vmem, ⟨0, _⟩ => ⟨S16384x2048, .f32⟩
  | .local _ .vmem, ⟨1, _⟩ => ⟨S2x6144x2048, .f32⟩
  | .local _ .vmem, ⟨2, _⟩ => ⟨S16384x2048, .fp8e4m3⟩
  | .local _ .vmem, ⟨3, _⟩ => ⟨S2x6144x2048, .fp8e5m2⟩
  | .local _ .vmem, ⟨4, _⟩ => ⟨S16384x2048, .bf16⟩
  | .local _ .vmem, ⟨5, _⟩ => ⟨S2x6144x2048, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_call0_v0 : Ref sig .tc := ⟨.hbm, 24, rfl⟩
abbrev main_call0_v1 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_7 : Ref sig .tc := ⟨.hbm, 37, rfl⟩
abbrev main_cst_8 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_9 : Ref sig .tc := ⟨.hbm, 49, rfl⟩
abbrev main_v30 : Ref sig .tc := ⟨.hbm, 50, rfl⟩
abbrev main_cst_10 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_12 : Ref sig .tc := ⟨.hbm, 61, rfl⟩
abbrev main_v39 : Ref sig .tc := ⟨.hbm, 62, rfl⟩
abbrev main_v40 : Ref sig .tc := ⟨.hbm, 63, rfl⟩
abbrev main_cst_13 : Ref sig .tc := ⟨.hbm, 64, rfl⟩
abbrev main_v41 : Ref sig .tc := ⟨.hbm, 65, rfl⟩
abbrev main_v42 : Ref sig .tc := ⟨.hbm, 66, rfl⟩
abbrev main_cst_14 : Ref sig .tc := ⟨.hbm, 67, rfl⟩
abbrev main_call2_v0 : Ref sig .tc := ⟨.hbm, 68, rfl⟩
abbrev main_call2_v1 : Ref sig .tc := ⟨.hbm, 69, rfl⟩
abbrev main_v43 : Ref sig .tc := ⟨.hbm, 70, rfl⟩
abbrev main_cst_15 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_16 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_cst_17 : Ref sig .tc := ⟨.hbm, 81, rfl⟩
abbrev main_cst_18 : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_v52 : Ref sig .tc := ⟨.hbm, 88, rfl⟩
abbrev main_v53 : Ref sig .tc := ⟨.hbm, 89, rfl⟩
abbrev main_v54_0 : Ref sig .tc := ⟨.hbm, 90, rfl⟩
abbrev main_v54_1 : Ref sig .tc := ⟨.hbm, 91, rfl⟩
abbrev main_v54_2 : Ref sig .tc := ⟨.hbm, 92, rfl⟩
abbrev main_v54_3 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S16384x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x6144x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x6144x2048 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x6144x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Points.lean ====
/-
  What the runs of the kernel body share: the body's one branch in closed form over the grid points, and the memrefs the
  pipeline passes to the body.
-/
module

public import proofs.«01_k».proof.Proof.Gen.KernelIdeal.Frame
public import proofs.«01_k».proof.Proof.Gen.KernelIdeal.Skeleton
public import proofs.«01_k».proof.Proof.Gen.KernelIdeal.Loops

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 192 := Nat.lt_of_lt_of_eq t.isLt N_0
    have e0 : (grid0.coords t 0).val = t.val / 16 % 12 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x2048 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S8x16 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x2048 .fp8e5m2 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x16 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S1024x2048 .bf16 := Memref.whole cc0_scratch0
abbrev scM0_1 : Memref sig .tc .vmem S1024x2048 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Gen

end
-- ==== Proof.Quant.lean ====
/-
  What one call of the kernel body computes from its two input blocks, as functions of whole blocks.

  A weight block [1024,2048] is cut into tiles of 128 rows and 128 columns, and each tile has one scale; a block of tokens [1024,2048] is cut
  into tiles of 256 rows and 128 columns, and each ROW of a tile has one scale. The arithmetic of a single tile is the kernel's own
  (`k0_pay…`, the printed operations of the first tile of the body); what is defined here is how the tiles make up the block.
-/
module

public import proofs.«01_k».proof.Proof.Gen.KernelIdeal.Skeleton
public import Idealize.ShloMosaic.Lib.Pipeline.ReadBack
public import Idealize.ShloMosaic.Lib.Pipeline.ValueKit.Tiles
public import Idealize.ShloMosaic.Lib.VecWindow
public import Idealize.ShloMosaic.Lib.ValueIdxCore

@[expose] public section

noncomputable section

namespace Cert.KernelIdeal.Val

open Idealize.ShloMosaic Idealize.ShloMosaic.ValueIdx Cert.KernelIdeal.Gen

variable {F : FTy → Type} [FloatOps F]

/-- Stores that cover a buffer, each of them a block of `G`, leave `G`. -/
theorem read_of_pieces {sig : RefSig} {κ : Kind} {sp : Space} {s : Shape} {e : EltTy} {Val : EltTy → Type} [∀ e, Nonempty (Val e)]
    (v : View sig κ sp s e) (f : v.ty.Contents Val) (L : List (View.Piece Val s e)) (G : s.Idx → Val e)
    (hc : ∀ y, ∃ p ∈ L, y ∈ p.1.set) (h : View.PiecesOf G L) : v.read Val (v.writes Val f L) = G := by
  rw [View.read_writes_eq_canon v f L hc]
  funext y
  have := View.canon_append_of_piecesOf G [] L h y (hc y)
  rwa [List.append_nil] at this

/-! ## One tile -/

/-- The scale of a weight tile. -/
def wScale (v : Vec F S128x128 .bf16) : FVec F S1x1 .f32 := k0_pay103 v
/-- The fp8 codes of a weight tile. -/
def wCodes (v : Vec F S128x128 .bf16) : FVec F S128x128 .fp8e4m3 :=
  k0_pay106 (k0_pay104 v) (Scalar.ofBits .f32 0x43E00000#32) k0_pay105
/-- A weight tile quantised and scaled back. -/
def wBack (v : Vec F S128x128 .bf16) : FVec F S128x128 .bf16 :=
  k0_pay107 (k0_pay103 v) (k0_pay104 v) (Scalar.ofBits .f32 0x43E00000#32) k0_pay105
/-- The scales of a tile of tokens, one per row. -/
def dScale (v : Vec F S256x128 .bf16) : FVec F S256x1 .f32 := k0_pay3 v
/-- The fp8 codes of a tile of tokens. -/
def dCodes (v : Vec F S256x128 .bf16) : FVec F S256x128 .fp8e5m2 := k0_pay4 v
/-- A tile of tokens quantised and scaled back. -/
def dBack (v : Vec F S256x128 .bf16) : FVec F S256x128 .bf16 := k0_pay5 (k0_pay3 v) (k0_pay4 v)

/-! ## The tiles of a block -/

/-- Tile (r, c) of a weight block: rows from 128 r, columns from 128 c. -/
def wTile (x : Vec F S1024x2048 .bf16) (r c : ℕ) : Vec F S128x128 .bf16 := fun z =>
  x (ix2 ⟨(128 * r + (z 0).val) % 1024, Nat.mod_lt _ (by decide)⟩ ⟨(128 * c + (z 1).val) % 2048, Nat.mod_lt _ (by decide)⟩)
/-- Tile (r, c) of a block of tokens: rows from 256 r, columns from 128 c. -/
def dTile (x : Vec F S1024x2048 .bf16) (r c : ℕ) : Vec F S256x128 .bf16 := fun z =>
  x (ix2 ⟨(256 * r + (z 0).val) % 1024, Nat.mod_lt _ (by decide)⟩ ⟨(128 * c + (z 1).val) % 2048, Nat.mod_lt _ (by decide)⟩)
/-- Where an index of a weight block lies inside its tile. -/
def wIn (y : S1024x2048.Idx) : S128x128.Idx := ix2 ⟨(y 0).val % 128, Nat.mod_lt _ (by decide)⟩ ⟨(y 1).val % 128, Nat.mod_lt _ (by decide)⟩
/-- Where an index of a block of tokens lies inside its tile. -/
def dIn (y : S1024x2048.Idx) : S256x128.Idx := ix2 ⟨(y 0).val % 256, Nat.mod_lt _ (by decide)⟩ ⟨(y 1).val % 128, Nat.mod_lt _ (by decide)⟩

/-- The fp8 codes of a weight block. -/
def WC (x : Vec F S1024x2048 .bf16) : Vec F S1024x2048 .fp8e4m3 := fun y => wCodes (wTile x ((y 0).val / 128) ((y 1).val / 128)) (wIn y)
/-- The scales of a weight block. -/
def WS (x : Vec F S1024x2048 .bf16) : Vec F S8x16 .f32 := fun y => wScale (wTile x (y 0).val (y 1).val) (ix2 0 0)
/-- A weight block quantised and scaled back. -/
def WB (x : Vec F S1024x2048 .bf16) : Vec F S1024x2048 .bf16 := fun y => wBack (wTile x ((y 0).val / 128) ((y 1).val / 128)) (wIn y)
/-- The fp8 codes of a block of tokens. -/
def DC (x : Vec F S1024x2048 .bf16) : Vec F S1024x2048 .fp8e5m2 := fun y => dCodes (dTile x ((y 0).val / 256) ((y 1).val / 128)) (dIn y)
/-- The scales of a block of tokens. -/
def DS (x : Vec F S1024x2048 .bf16) : Vec F S1024x16 .f32 := fun y =>
  dScale (dTile x ((y 0).val / 256) (y 1).val) (ix2 ⟨(y 0).val % 256, Nat.mod_lt _ (by decide)⟩ 0)
/-- A block of tokens quantised and scaled back. -/
def DB (x : Vec F S1024x2048 .bf16) : Vec F S1024x2048 .bf16 := fun y => dBack (dTile x ((y 0).val / 256) ((y 1).val / 128)) (dIn y)
/-- The product of the two blocks scaled back: tokens by rows of the weight. -/
def DX (a b : Vec F S1024x2048 .bf16) : Vec F S1024x1024 .bf16 := k0_pay811 a b

/-! ## A stored tile is a piece of its block -/

/-- A load of the rectangle at a tile's corner is that tile, -/
theorem ld_wTile (x : Vec F S1024x2048 .bf16) {off : Fin 2 → ℕ} (inb : ∀ a, off a + S128x128.size a ≤ S1024x2048.size a)
    (r c : ℕ) (h0 : off 0 = 128 * r) (h1 : off 1 = 128 * c) : View.ld x (Rect.unit (s := S1024x2048) off S128x128.size inb) = wTile x r c := by
  have i0 : off 0 + 128 ≤ 1024 := inb 0
  have i1 : off 1 + 128 ≤ 2048 := inb 1
  funext z
  have z0 : (z 0).val < 128 := (z 0).isLt
  have z1 : (z 1).val < 128 := (z 1).isLt
  refine congrArg x (funext fun a => Fin.ext ?_)
  match a with
  | ⟨0, _⟩ => show off 0 + 1 * (z 0).val = (128 * r + (z 0).val) % 1024; omega
  | ⟨1, _⟩ => show off 1 + 1 * (z 1).val = (128 * c + (z 1).val) % 2048; omega

/-- and an index of that rectangle lies in that tile. -/
theorem emb_w {off : Fin 2 → ℕ} (inb : ∀ a, off a + S128x128.size a ≤ S1024x2048.size a)
    (r c : ℕ) (h0 : off 0 = 128 * r) (h1 : off 1 = 128 * c) (j : S128x128.Idx) :
    ((Rect.unit (s := S1024x2048) off S128x128.size inb).emb j 0).val / 128 = r
    ∧ ((Rect.unit (s := S1024x2048) off S128x128.size inb).emb j 1).val / 128 = c
    ∧ wIn ((Rect.unit (s := S1024x2048) off S128x128.size inb).emb j) = j := by
  have z0 : (j 0).val < 128 := (j 0).isLt
  have z1 : (j 1).val < 128 := (j 1).isLt
  have e0 : ((Rect.unit (s := S1024x2048) off S128x128.size inb).emb j 0).val = off 0 + 1 * (j 0).val := rfl
  have e1 : ((Rect.unit (s := S1024x2048) off S128x128.size inb).emb j 1).val = off 1 + 1 * (j 1).val := rfl
  refine ⟨by omega, by omega, funext fun a => Fin.ext ?_⟩
  match a with
  | ⟨0, _⟩ => show ((Rect.unit (s := S1024x2048) off S128x128.size inb).emb j 0).val % 128 = (j 0).val; omega
  | ⟨1, _⟩ => show ((Rect.unit (s := S1024x2048) off S128x128.size inb).emb j 1).val % 128 = (j 1).val; omega

/-- The same for a block of tokens: a load of the rectangle at a tile's corner is that tile, -/
theorem ld_dTile (x : Vec F S1024x2048 .bf16) {off : Fin 2 → ℕ} (inb : ∀ a, off a + S256x128.size a ≤ S1024x2048.size a)
    (r c : ℕ) (h0 : off 0 = 256 * r) (h1 : off 1 = 128 * c) : View.ld x (Rect.unit (s := S1024x2048) off S256x128.size inb) = dTile x r c := by
  have i0 : off 0 + 256 ≤ 1024 := inb 0
  have i1 : off 1 + 128 ≤ 2048 := inb 1
  funext z
  have z0 : (z 0).val < 256 := (z 0).isLt
  have z1 : (z 1).val < 128 := (z 1).isLt
  refine congrArg x (funext fun a => Fin.ext ?_)
  match a with
  | ⟨0, _⟩ => show off 0 + 1 * (z 0).val = (256 * r + (z 0).val) % 1024; omega
  | ⟨1, _⟩ => show off 1 + 1 * (z 1).val = (128 * c + (z 1).val) % 2048; omega

/-- and an index of that rectangle lies in that tile. -/
theorem emb_d {off : Fin 2 → ℕ} (inb : ∀ a, off a + S256x128.size a ≤ S1024x2048.size a)
    (r c : ℕ) (h0 : off 0 = 256 * r) (h1 : off 1 = 128 * c) (j : S256x128.Idx) :
    ((Rect.unit (s := S1024x2048) off S256x128.size inb).emb j 0).val / 256 = r
    ∧ ((Rect.unit (s := S1024x2048) off S256x128.size inb).emb j 1).val / 128 = c
    ∧ dIn ((Rect.unit (s := S1024x2048) off S256x128.size inb).emb j) = j := by
  have z0 : (j 0).val < 256 := (j 0).isLt
  have z1 : (j 1).val < 128 := (j 1).isLt
  have e0 : ((Rect.unit (s := S1024x2048) off S256x128.size inb).emb j 0).val = off 0 + 1 * (j 0).val := rfl
  have e1 : ((Rect.unit (s := S1024x2048) off S256x128.size inb).emb j 1).val = off 1 + 1 * (j 1).val := rfl
  refine ⟨by omega, by omega, funext fun a => Fin.ext ?_⟩
  match a with
  | ⟨0, _⟩ => show ((Rect.unit (s := S1024x2048) off S256x128.size inb).emb j 0).val % 256 = (j 0).val; omega
  | ⟨1, _⟩ => show ((Rect.unit (s := S1024x2048) off S256x128.size inb).emb j 1).val % 128 = (j 1).val; omega

/-- The codes of a loaded weight tile are the block's codes at that tile. -/
theorem wc_piece (x : Vec F S1024x2048 .bf16) {off : Fin 2 → ℕ} (inb : ∀ a, off a + S128x128.size a ≤ S1024x2048.size a)
    (h0 : off 0 % 128 = 0) (h1 : off 1 % 128 = 0) (j : S128x128.Idx) :
    wCodes (View.ld x (Rect.unit (s := S1024x2048) off S128x128.size inb)) j = WC x ((Rect.unit (s := S1024x2048) off S128x128.size inb).emb j) := by
  obtain ⟨e0, e1, e2⟩ := emb_w inb (off 0 / 128) (off 1 / 128) (by omega) (by omega) j
  unfold WC; rw [e0, e1, e2, ld_wTile x inb (off 0 / 128) (off 1 / 128) (by omega) (by omega)]

/-- A loaded weight tile scaled back is the block scaled back at that tile. -/
theorem wb_piece (x : Vec F S1024x2048 .bf16) {off : Fin 2 → ℕ} (inb : ∀ a, off a + S128x128.size a ≤ S1024x2048.size a)
    (h0 : off 0 % 128 = 0) (h1 : off 1 % 128 = 0) (j : S128x128.Idx) :
    wBack (View.ld x (Rect.unit (s := S1024x2048) off S128x128.size inb)) j = WB x ((Rect.unit (s := S1024x2048) off S128x128.size inb).emb j) := by
  obtain ⟨e0, e1, e2⟩ := emb_w inb (off 0 / 128) (off 1 / 128) (by omega) (by omega) j
  unfold WB; rw [e0, e1, e2, ld_wTile x inb (off 0 / 128) (off 1 / 128) (by omega) (by omega)]

/-- The codes of a loaded tile of tokens are the block's codes at that tile. -/
theorem dc_piece (x : Vec F S1024x2048 .bf16) {off : Fin 2 → ℕ} (inb : ∀ a, off a + S256x128.size a ≤ S1024x2048.size a)
    (h0 : off 0 % 256 = 0) (h1 : off 1 % 128 = 0) (j : S256x128.Idx) :
    dCodes (View.ld x (Rect.unit (s := S1024x2048) off S256x128.size inb)) j = DC x ((Rect.unit (s := S1024x2048) off S256x128.size inb).emb j) := by
  obtain ⟨e0, e1, e2⟩ := emb_d inb (off 0 / 256) (off 1 / 128) (by omega) (by omega) j
  unfold DC; rw [e0, e1, e2, ld_dTile x inb (off 0 / 256) (off 1 / 128) (by omega) (by omega)]

/-- A loaded tile of tokens scaled back is the block scaled back at that tile. -/
theorem db_piece (x : Vec F S1024x2048 .bf16) {off : Fin 2 → ℕ} (inb : ∀ a, off a + S256x128.size a ≤ S1024x2048.size a)
    (h0 : off 0 % 256 = 0) (h1 : off 1 % 128 = 0) (j : S256x128.Idx) :
    dBack (View.ld x (Rect.unit (s := S1024x2048) off S256x128.size inb)) j = DB x ((Rect.unit (s := S1024x2048) off S256x128.size inb).emb j) := by
  obtain ⟨e0, e1, e2⟩ := emb_d inb (off 0 / 256) (off 1 / 128) (by omega) (by omega) j
  unfold DB; rw [e0, e1, e2, ld_dTile x inb (off 0 / 256) (off 1 / 128) (by omega) (by omega)]

/-- A rectangle as large as its array, at the corner, is the array. -/
theorem emb_full {s : Shape} {off : Fin s.rank → ℕ} (inb : ∀ a, off a + s.size a ≤ s.size a) (j : s.Idx) :
    (Rect.unit off s.size inb).emb j = j :=
  funext fun a => Fin.ext (by
    show off a + 1 * (j a).val = (j a).val
    have := inb a; omega)

/-- The corner of weight tile (r, c) leaves room for the tile. -/
theorem inb_w {r : ℕ} (hr : r < 8) (c : Fin 16) : ∀ a, (![128 * r, 128 * c.val] : Fin 2 → ℕ) a + S128x128.size a ≤ S1024x2048.size a :=
  Rect.inb₂ (by show 128 * r + 128 ≤ 1024; omega) (by show 128 * c.val + 128 ≤ 2048; omega)

/-- Sixteen scales of loaded weight tiles side by side are a row of the block's scales. -/
theorem ws_piece (x : Vec F S1024x2048 .bf16) (r : ℕ) (hr : r < 8) (inb : ∀ a, (![r, 0] : Fin 2 → ℕ) a + S1x16.size a ≤ S8x16.size a)
    (hc) (j : S1x16.Idx) :
    concatenate S1x16 1 (List.ofFn fun c : Fin 16 =>
      (⟨S1x1, wScale (View.ld x (Rect.unit (s := S1024x2048) ![128 * r, 128 * c.val] S128x128.size (inb_w hr c)))⟩ : (s : Shape) × (s.Idx → F .f32))) hc j
      = WS x ((Rect.unit (s := S8x16) ![r, 0] S1x16.size inb).emb j) := by
  refine concatenate_ofFn_unit_eq 1 _ hc j _ rfl rfl fun n i hn h0 hb => ?_
  have j0 : (j 0).val < 1 := (j 0).isLt
  have e0 : ((Rect.unit (s := S8x16) ![r, 0] S1x16.size inb).emb j 0).val = r := by
    show r + 1 * (j 0).val = r; omega
  have e1 : ((Rect.unit (s := S8x16) ![r, 0] S1x16.size inb).emb j 1).val = n.val := by
    show 0 + 1 * (j 1).val = n.val; omega
  unfold WS; rw [e0, e1, ld_wTile x (inb_w hr n) r n.val rfl rfl]
  refine congrArg _ (funext fun a => Fin.ext ?_)
  match a with
  | ⟨0, _⟩ => have : (i 0).val < 1 := (i 0).isLt; show (i 0).val = 0; omega
  | ⟨1, _⟩ => exact h0

/-- Sixteen columns of scales of loaded tiles of tokens side by side are the block's scales in those rows. -/
theorem ds_piece (x : Vec F S1024x2048 .bf16) (r : ℕ) (offs : Fin 16 → Fin 2 → ℕ)
    (inbs : ∀ c a, offs c a + S256x128.size a ≤ S1024x2048.size a) (h0 : ∀ c, offs c 0 = 256 * r) (h1 : ∀ c : Fin 16, offs c 1 = 128 * c.val)
    {off : Fin 2 → ℕ} (inb : ∀ a, off a + S256x16.size a ≤ S1024x16.size a) (g0 : off 0 = 256 * r) (g1 : off 1 = 0)
    (hc) (j : S256x16.Idx) :
    concatenate S256x16 1 (List.ofFn fun c : Fin 16 =>
      (⟨S256x1, dScale (View.ld x (Rect.unit (s := S1024x2048) (offs c) S256x128.size (inbs c)))⟩ : (s : Shape) × (s.Idx → F .f32))) hc j
      = DS x ((Rect.unit (s := S1024x16) off S256x16.size inb).emb j) := by
  refine concatenate_ofFn_unit_eq 1 _ hc j _ rfl rfl fun n i hn hi hb => ?_
  have j0 : (j 0).val < 256 := (j 0).isLt
  have e0 : ((Rect.unit (s := S1024x16) off S256x16.size inb).emb j 0).val = 256 * r + (j 0).val := by
    show off 0 + 1 * (j 0).val = _; omega
  have e1 : ((Rect.unit (s := S1024x16) off S256x16.size inb).emb j 1).val = n.val := by
    show off 1 + 1 * (j 1).val = n.val; omega
  unfold DS; rw [e1, ld_dTile x (inbs n) r n.val (h0 n) (h1 n)]
  have i0 : (i 0).val = (j 0).val := hb 0 (by decide)
  have e2 : ((Rect.unit (s := S1024x16) off S256x16.size inb).emb j 0).val / 256 = r := by omega
  rw [e2]
  refine congrArg _ (funext fun a => Fin.ext ?_)
  match a with
  | ⟨0, _⟩ => show (i 0).val = ((Rect.unit (s := S1024x16) off S256x16.size inb).emb j 0).val % 256; omega
  | ⟨1, _⟩ => exact hi

end Cert.KernelIdeal.Val

end
-- ==== Proof.TripA.lean ====
module

public import proofs.«01_k».proof.Proof.Points
public import proofs.«01_k».proof.Proof.Quant

@[expose] public section

set_option maxRecDepth 16384

noncomputable section

namespace Cert.KernelIdeal.Gen

open Idealize.ShloMosaic Idealize.ShloMosaic.TcCoe Idealize.ShloMosaic.Tactic
open Cert.KernelIdeal.Val

variable {F : FTy → Type} [FloatOps F]

/-- The corner of the c-th tile of tokens that trip k of the loop reads and writes. -/
def tripOff (k : Fin k0_t1_loop.trips) : Fin 16 → Fin 2 → ℕ :=
  ![k0_off1 k, k0_off2 k, k0_off3 k, k0_off4 k, k0_off5 k, k0_off6 k, k0_off7 k, k0_off8 k, k0_off9 k, k0_off10 k, k0_off11 k, k0_off12 k, k0_off13 k, k0_off14 k, k0_off15 k, k0_off16 k]

/-- The c-th tile of trip k lies at row 256 k and column 128 c. -/
theorem tripOff_eq (k : Fin k0_t1_loop.trips) (c : Fin 16) : tripOff k c = ![256 * k.val, 128 * c.val] := by
  fin_cases c
  · exact k0_off1_eq k
  · exact k0_off2_eq k
  · exact k0_off3_eq k
  · exact k0_off4_eq k
  · exact k0_off5_eq k
  · exact k0_off6_eq k
  · exact k0_off7_eq k
  · exact k0_off8_eq k
  · exact k0_off9_eq k
  · exact k0_off10_eq k
  · exact k0_off11_eq k
  · exact k0_off12_eq k
  · exact k0_off13_eq k
  · exact k0_off14_eq k
  · exact k0_off15_eq k
  · exact k0_off16_eq k

theorem tripOff_0 (k : Fin k0_t1_loop.trips) (c : Fin 16) : tripOff k c 0 = 256 * k.val := congrFun (tripOff_eq k c) 0

theorem tripOff_1 (k : Fin k0_t1_loop.trips) (c : Fin 16) : tripOff k c 1 = 128 * c.val := congrFun (tripOff_eq k c) 1

theorem tripOff_0_mod (k : Fin k0_t1_loop.trips) (c : Fin 16) : tripOff k c 0 % 256 = 0 := by rw [tripOff_0]; omega

theorem tripOff_1_mod (k : Fin k0_t1_loop.trips) (c : Fin 16) : tripOff k c 1 % 128 = 0 := by rw [tripOff_1]; omega

/-- Every tile of a trip lies inside the block. -/
theorem tripOff_inb (k : Fin k0_t1_loop.trips) (c : Fin 16) (a : Fin 2) : tripOff k c a + S256x128.size a ≤ S1024x2048.size a := by
  have hk : k.val < 4 := Nat.lt_of_lt_of_le k.isLt k0_t1_abs.2.1
  have hc := c.isLt
  match a with
  | ⟨0, _⟩ => show tripOff k c 0 + 256 ≤ 1024; rw [tripOff_0]; omega
  | ⟨1, _⟩ => show tripOff k c 1 + 128 ≤ 2048; rw [tripOff_1]; omega

/-- The corner of the rows of scales that trip k writes. -/
theorem k0_off17_0 (k : Fin k0_t1_loop.trips) : k0_off17 k 0 = 256 * k.val := congrFun (k0_off17_eq k) 0

theorem k0_off17_1 (k : Fin k0_t1_loop.trips) : k0_off17 k 1 = 0 := congrFun (k0_off17_eq k) 1

/-- What trip k of the loop writes are pieces of the codes, the scales and the dequantized values of the block of tokens. -/
theorem trip_pieces (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) (k : Fin k0_t1_loop.trips) :
    View.PiecesOf (DC (arg2.view.read (Elt F) X)) (tripL_k0_t1 (F := F) 𝒱 c bd i arg2 harg2 arg3 harg3 arg4 harg4 arg5 harg5 arg6 harg6 arg7 harg7 arg8 harg8 arg9 harg9 arg10 harg10 k0_h1 X k).1
      ∧ View.PiecesOf (DS (arg2.view.read (Elt F) X)) (tripL_k0_t1 (F := F) 𝒱 c bd i arg2 harg2 arg3 harg3 arg4 harg4 arg5 harg5 arg6 harg6 arg7 harg7 arg8 harg8 arg9 harg9 arg10 harg10 k0_h1 X k).2.1
      ∧ View.PiecesOf (DB (arg2.view.read (Elt F) X)) (tripL_k0_t1 (F := F) 𝒱 c bd i arg2 harg2 arg3 harg3 arg4 harg4 arg5 harg5 arg6 harg6 arg7 harg7 arg8 harg8 arg9 harg9 arg10 harg10 k0_h1 X k).2.2 := by
  unfold tripL_k0_t1 trip_k0_t1
  refine ⟨?_, ?_, ?_⟩
  · refine ⟨fun j => Eq.trans ?_ (dc_piece _ (tripOff_inb k 15) (tripOff_0_mod k 15) (tripOff_1_mod k 15) j), ?_⟩; (· rfl)
    refine ⟨fun j => Eq.trans ?_ (dc_piece _ (tripOff_inb k 14) (tripOff_0_mod k 14) (tripOff_1_mod k 14) j), ?_⟩; (· rfl)
    refine ⟨fun j => Eq.trans ?_ (dc_piece _ (tripOff_inb k 13) (tripOff_0_mod k 13) (tripOff_1_mod k 13) j), ?_⟩; (· rfl)
    refine ⟨fun j => Eq.trans ?_ (dc_piece _ (tripOff_inb k 12) (tripOff_0_mod k 12) (tripOff_1_mod k 12) j), ?_⟩; (· rfl)
    refine ⟨fun j => Eq.trans ?_ (dc_piece _ (tripOff_inb k 11) (tripOff_0_mod k 11) (tripOff_1_mod k 11) j), ?_⟩; (· rfl)
    refine ⟨fun j => Eq.trans ?_ (dc_piece _ (tripOff_inb k 10) (tripOff_0_mod k 10) (tripOff_1_mod k 10) j), ?_⟩; (· rfl)
    refine ⟨fun j => Eq.trans ?_ (dc_piece _ (tripOff_inb k 9) (tripOff_0_mod k 9) (tripOff_1_mod k 9) j), ?_⟩; (· rfl)
    refine ⟨fun j => Eq.trans ?_ (dc_piece _ (tripOff_inb k 8) (tripOff_0_mod k 8) (tripOff_1_mod k 8) j), ?_⟩; (· rfl)
    refine ⟨fun j => Eq.trans ?_ (dc_piece _ (tripOff_inb k 7) (tripOff_0_mod k 7) (tripOff_1_mod k 7) j), ?_⟩; (· rfl)
    refine ⟨fun j => Eq.trans ?_ (dc_piece _ (tripOff_inb k 6) (tripOff_0_mod k 6) (tripOff_1_mod k 6) j), ?_⟩; (· rfl)
    refine ⟨fun j => Eq.trans ?_ (dc_piece _ (tripOff_inb k 5) (tripOff_0_mod k 5) (tripOff_1_mod k 5) j), ?_⟩; (· rfl)
    refine ⟨fun j => Eq.trans ?_ (dc_piece _ (tripOff_inb k 4) (tripOff_0_mod k 4) (tripOff_1_mod k 4) j), ?_⟩; (· rfl)
    refine ⟨fun j => Eq.trans ?_ (dc_piece _ (tripOff_inb k 3) (tripOff_0_mod k 3) (tripOff_1_mod k 3) j), ?_⟩; (· rfl)
    refine ⟨fun j => Eq.trans ?_ (dc_piece _ (tripOff_inb k 2) (tripOff_0_mod k 2) (tripOff_1_mod k 2) j), ?_⟩; (· rfl)
    refine ⟨fun j => Eq.trans ?_ (dc_piece _ (tripOff_inb k 1) (tripOff_0_mod k 1) (tripOff_1_mod k 1) j), ?_⟩; (· rfl)
    refine ⟨fun j => Eq.trans ?_ (dc_piece _ (tripOff_inb k 0) (tripOff_0_mod k 0) (tripOff_1_mod k 0) j), ?_⟩; (· rfl)
    trivial
  · refine ⟨fun j => Eq.trans ?_ (ds_piece _ k.val (tripOff k) (tripOff_inb k) (tripOff_0 k) (tripOff_1 k) (k0_off17_inb i k k0_h1) (k0_off17_0 k) (k0_off17_1 k) concatenates_S256x1_S256x1_S256x1_S256x1_S256x1_S256x1_S256x1_S256x1_S256x1_S256x1_S256x1_S256x1_S256x1_S256x1_S256x1_S256x1_S256x16_d1 j), ?_⟩; (· rfl)
    trivial
  · refine ⟨fun j => Eq.trans ?_ (db_piece _ (tripOff_inb k 15) (tripOff_0_mod k 15) (tripOff_1_mod k 15) j), ?_⟩; (· rfl)
    refine ⟨fun j => Eq.trans ?_ (db_piece _ (tripOff_inb k 14) (tripOff_0_mod k 14) (tripOff_1_mod k 14) j), ?_⟩; (· rfl)
    refine ⟨fun j => Eq.trans ?_ (db_piece _ (tripOff_inb k 13) (tripOff_0_mod k 13) (tripOff_1_mod k 13) j), ?_⟩; (· rfl)
    refine ⟨fun j => Eq.trans ?_ (db_piece _ (tripOff_inb k 12) (tripOff_0_mod k 12) (tripOff_1_mod k 12) j), ?_⟩; (· rfl)
    refine ⟨fun j => Eq.trans ?_ (db_piece _ (tripOff_inb k 11) (tripOff_0_mod k 11) (tripOff_1_mod k 11) j), ?_⟩; (· rfl)
    refine ⟨fun j => Eq.trans ?_ (db_piece _ (tripOff_inb k 10) (tripOff_0_mod k 10) (tripOff_1_mod k 10) j), ?_⟩; (· rfl)
    refine ⟨fun j => Eq.trans ?_ (db_piece _ (tripOff_inb k 9) (tripOff_0_mod k 9) (tripOff_1_mod k 9) j), ?_⟩; (· rfl)
    refine ⟨fun j => Eq.trans ?_ (db_piece _ (tripOff_inb k 8) (tripOff_0_mod k 8) (tripOff_1_mod k 8) j), ?_⟩; (· rfl)
    refine ⟨fun j => Eq.trans ?_ (db_piece _ (tripOff_inb k 7) (tripOff_0_mod k 7) (tripOff_1_mod k 7) j), ?_⟩; (· rfl)
    refine ⟨fun j => Eq.trans ?_ (db_piece _ (tripOff_inb k 6) (tripOff_0_mod k 6) (tripOff_1_mod k 6) j), ?_⟩; (· rfl)
    refine ⟨fun j => Eq.trans ?_ (db_piece _ (tripOff_inb k 5) (tripOff_0_mod k 5) (tripOff_1_mod k 5) j), ?_⟩; (· rfl)
    refine ⟨fun j => Eq.trans ?_ (db_piece _ (tripOff_inb k 4) (tripOff_0_mod k 4) (tripOff_1_mod k 4) j), ?_⟩; (· rfl)
    refine ⟨fun j => Eq.trans ?_ (db_piece _ (tripOff_inb k 3) (tripOff_0_mod k 3) (tripOff_1_mod k 3) j), ?_⟩; (· rfl)
    refine ⟨fun j => Eq.trans ?_ (db_piece _ (tripOff_inb k 2) (tripOff_0_mod k 2) (tripOff_1_mod k 2) j), ?_⟩; (· rfl)
    refine ⟨fun j => Eq.trans ?_ (db_piece _ (tripOff_inb k 1) (tripOff_0_mod k 1) (tripOff_1_mod k 1) j), ?_⟩; (· rfl)
    refine ⟨fun j => Eq.trans ?_ (db_piece _ (tripOff_inb k 0) (tripOff_0_mod k 0) (tripOff_1_mod k 0) j), ?_⟩; (· rfl)
    trivial

/-- A point of the block in trip k's rows lies in the tile of its column. -/
theorem mem_tile (k : Fin k0_t1_loop.trips) (c : Fin 16) (y : S1024x2048.Idx) (h0 : (y 0).val / 256 = k.val) (h1 : (y 1).val / 128 = c.val) :
    y ∈ (Rect.unit (s := S1024x2048) (tripOff k c) S256x128.size (tripOff_inb k c)).set :=
  Rect.mem_set_unit.mpr fun a => match a with
    | ⟨0, _⟩ => by show tripOff k c 0 ≤ (y 0).val ∧ (y 0).val < tripOff k c 0 + 256; rw [tripOff_0]; omega
    | ⟨1, _⟩ => by show tripOff k c 1 ≤ (y 1).val ∧ (y 1).val < tripOff k c 1 + 128; rw [tripOff_1]; omega

/-- Every column of tiles is one of the sixteen. -/
theorem exists_col (y : S1024x2048.Idx) : ∃ c : Fin 16, (y 1).val / 128 = c.val := by
  have h : (y 1).val < 2048 := (y 1).isLt
  exact ⟨⟨(y 1).val / 128, by omega⟩, rfl⟩

/-- The codes that trip k writes cover its rows. -/
theorem trip_cover7 (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) (k : Fin k0_t1_loop.trips) (y : S1024x2048.Idx) (h0 : (y 0).val / 256 = k.val) :
    ∃ p ∈ (tripL_k0_t1 (F := F) 𝒱 c bd i arg2 harg2 arg3 harg3 arg4 harg4 arg5 harg5 arg6 harg6 arg7 harg7 arg8 harg8 arg9 harg9 arg10 harg10 k0_h1 X k).1, y ∈ p.1.set := by
  obtain ⟨c, h1⟩ := exists_col y
  have hm := mem_tile k c y h0 h1
  unfold tripL_k0_t1 trip_k0_t1
  fin_cases c
  · exact ⟨_, List.mem_of_getElem? (i := 15) rfl, hm⟩
  · exact ⟨_, List.mem_of_getElem? (i := 14) rfl, hm⟩
  · exact ⟨_, List.mem_of_getElem? (i := 13) rfl, hm⟩
  · exact ⟨_, List.mem_of_getElem? (i := 12) rfl, hm⟩
  · exact ⟨_, List.mem_of_getElem? (i := 11) rfl, hm⟩
  · exact ⟨_, List.mem_of_getElem? (i := 10) rfl, hm⟩
  · exact ⟨_, List.mem_of_getElem? (i := 9) rfl, hm⟩
  · exact ⟨_, List.mem_of_getElem? (i := 8) rfl, hm⟩
  · exact ⟨_, List.mem_of_getElem? (i := 7) rfl, hm⟩
  · exact ⟨_, List.mem_of_getElem? (i := 6) rfl, hm⟩
  · exact ⟨_, List.mem_of_getElem? (i := 5) rfl, hm⟩
  · exact ⟨_, List.mem_of_getElem? (i := 4) rfl, hm⟩
  · exact ⟨_, List.mem_of_getElem? (i := 3) rfl, hm⟩
  · exact ⟨_, List.mem_of_getElem? (i := 2) rfl, hm⟩
  · exact ⟨_, List.mem_of_getElem? (i := 1) rfl, hm⟩
  · exact ⟨_, List.mem_of_getElem? (i := 0) rfl, hm⟩

/-- The scales that trip k writes cover its rows. -/
theorem trip_cover8 (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) (k : Fin k0_t1_loop.trips) (y : S1024x16.Idx) (h0 : (y 0).val / 256 = k.val) :
    ∃ p ∈ (tripL_k0_t1 (F := F) 𝒱 c bd i arg2 harg2 arg3 harg3 arg4 harg4 arg5 harg5 arg6 harg6 arg7 harg7 arg8 harg8 arg9 harg9 arg10 harg10 k0_h1 X k).2.1, y ∈ p.1.set := by
  have hm : y ∈ (Rect.unit (s := S1024x16) (k0_off17 k) S256x16.size (k0_off17_inb i k k0_h1)).set :=
    Rect.mem_set_unit.mpr fun a => match a with
      | ⟨0, _⟩ => by show k0_off17 k 0 ≤ (y 0).val ∧ (y 0).val < k0_off17 k 0 + 256; rw [k0_off17_0]; omega
      | ⟨1, _⟩ => by
        have : (y 1).val < 16 := (y 1).isLt
        show k0_off17 k 1 ≤ (y 1).val ∧ (y 1).val < k0_off17 k 1 + 16; rw [k0_off17_1]; omega
  unfold tripL_k0_t1 trip_k0_t1
  exact ⟨_, List.mem_cons_self, hm⟩

/-- The dequantized values that trip k writes cover its rows. -/
theorem trip_cover9 (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) (k : Fin k0_t1_loop.trips) (y : S1024x2048.Idx) (h0 : (y 0).val / 256 = k.val) :
    ∃ p ∈ (tripL_k0_t1 (F := F) 𝒱 c bd i arg2 harg2 arg3 harg3 arg4 harg4 arg5 harg5 arg6 harg6 arg7 harg7 arg8 harg8 arg9 harg9 arg10 harg10 k0_h1 X k).2.2, y ∈ p.1.set := by
  obtain ⟨c, h1⟩ := exists_col y
  have hm := mem_tile k c y h0 h1
  unfold tripL_k0_t1 trip_k0_t1
  fin_cases c
  · exact ⟨_, List.mem_of_getElem? (i := 15) rfl, hm⟩
  · exact ⟨_, List.mem_of_getElem? (i := 14) rfl, hm⟩
  · exact ⟨_, List.mem_of_getElem? (i := 13) rfl, hm⟩
  · exact ⟨_, List.mem_of_getElem? (i := 12) rfl, hm⟩
  · exact ⟨_, List.mem_of_getElem? (i := 11) rfl, hm⟩
  · exact ⟨_, List.mem_of_getElem? (i := 10) rfl, hm⟩
  · exact ⟨_, List.mem_of_getElem? (i := 9) rfl, hm⟩
  · exact ⟨_, List.mem_of_getElem? (i := 8) rfl, hm⟩
  · exact ⟨_, List.mem_of_getElem? (i := 7) rfl, hm⟩
  · exact ⟨_, List.mem_of_getElem? (i := 6) rfl, hm⟩
  · exact ⟨_, List.mem_of_getElem? (i := 5) rfl, hm⟩
  · exact ⟨_, List.mem_of_getElem? (i := 4) rfl, hm⟩
  · exact ⟨_, List.mem_of_getElem? (i := 3) rfl, hm⟩
  · exact ⟨_, List.mem_of_getElem? (i := 2) rfl, hm⟩
  · exact ⟨_, List.mem_of_getElem? (i := 1) rfl, hm⟩
  · exact ⟨_, List.mem_of_getElem? (i := 0) rfl, hm⟩

/-- Pieces of one array in two lists are pieces of it together. -/
theorem piecesOf_append {s : Shape} {e : EltTy} {G : s.Idx → Elt F e} : ∀ {L L' : List (View.Piece (Elt F) s e)}, View.PiecesOf G L → View.PiecesOf G L' →
    View.PiecesOf G (L ++ L')
  | [], _, _, h' => h'
  | _ :: _, _, h, h' => ⟨h.1, piecesOf_append h.2 h'⟩

/-- Rows covered by one trip and rows covered by the trips before it. -/
theorem cover_append {s : Shape} {e : EltTy} {L L' : List (View.Piece (Elt F) s e)} {y : s.Idx} {r n : ℕ} (h : r = n → ∃ p ∈ L, y ∈ p.1.set)
    (h' : r < n → ∃ p ∈ L', y ∈ p.1.set) (hr : r < n + 1) : ∃ p ∈ L ++ L', y ∈ p.1.set := by
  rcases Nat.lt_succ_iff_lt_or_eq.mp hr with hlt | heq
  · obtain ⟨p, hp, hy⟩ := h' hlt; exact ⟨p, List.mem_append_right _ hp, hy⟩
  · obtain ⟨p, hp, hy⟩ := h heq; exact ⟨p, List.mem_append_left _ hp, hy⟩

/-- What the trips before the n-th write are pieces of the block's codes, scales and dequantized values. -/
theorem loop_pieces (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) : ∀ n, n ≤ k0_t1_loop.trips →
    View.PiecesOf (DC (arg2.view.read (Elt F) X)) (pb_k0_t1 (F := F) 𝒱 c bd i arg2 harg2 arg3 harg3 arg4 harg4 arg5 harg5 arg6 harg6 arg7 harg7 arg8 harg8 arg9 harg9 arg10 harg10 k0_h1 X n).1
      ∧ View.PiecesOf (DS (arg2.view.read (Elt F) X)) (pb_k0_t1 (F := F) 𝒱 c bd i arg2 harg2 arg3 harg3 arg4 harg4 arg5 harg5 arg6 harg6 arg7 harg7 arg8 harg8 arg9 harg9 arg10 harg10 k0_h1 X n).2.1
      ∧ View.PiecesOf (DB (arg2.view.read (Elt F) X)) (pb_k0_t1 (F := F) 𝒱 c bd i arg2 harg2 arg3 harg3 arg4 harg4 arg5 harg5 arg6 harg6 arg7 harg7 arg8 harg8 arg9 harg9 arg10 harg10 k0_h1 X n).2.2
  | 0, _ => ⟨trivial, trivial, trivial⟩
  | n + 1, h => by
    obtain ⟨i7, i8, i9⟩ := loop_pieces 𝒱 c bd i arg2 harg2 arg3 harg3 arg4 harg4 arg5 harg5 arg6 harg6 arg7 harg7 arg8 harg8 arg9 harg9 arg10 harg10 k0_h1 X n (by omega)
    obtain ⟨t7, t8, t9⟩ := trip_pieces 𝒱 c bd i arg2 harg2 arg3 harg3 arg4 harg4 arg5 harg5 arg6 harg6 arg7 harg7 arg8 harg8 arg9 harg9 arg10 harg10 k0_h1 X ⟨n, h⟩
    rw [pb_k0_t1_succ (F := F) 𝒱 c bd i arg2 harg2 arg3 harg3 arg4 harg4 arg5 harg5 arg6 harg6 arg7 harg7 arg8 harg8 arg9 harg9 arg10 harg10 k0_h1 X ⟨n, h⟩]
    exact ⟨piecesOf_append t7 i7, piecesOf_append t8 i8, piecesOf_append t9 i9⟩

/-- The trips before the n-th cover the first 256 n rows of the three arrays. -/
theorem loop_cover (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) : ∀ n, n ≤ k0_t1_loop.trips →
    (∀ y : S1024x2048.Idx, (y 0).val / 256 < n → ∃ p ∈ (pb_k0_t1 (F := F) 𝒱 c bd i arg2 harg2 arg3 harg3 arg4 harg4 arg5 harg5 arg6 harg6 arg7 harg7 arg8 harg8 arg9 harg9 arg10 harg10 k0_h1 X n).1, y ∈ p.1.set)
      ∧ (∀ y : S1024x16.Idx, (y 0).val / 256 < n → ∃ p ∈ (pb_k0_t1 (F := F) 𝒱 c bd i arg2 harg2 arg3 harg3 arg4 harg4 arg5 harg5 arg6 harg6 arg7 harg7 arg8 harg8 arg9 harg9 arg10 harg10 k0_h1 X n).2.1, y ∈ p.1.set)
      ∧ (∀ y : S1024x2048.Idx, (y 0).val / 256 < n → ∃ p ∈ (pb_k0_t1 (F := F) 𝒱 c bd i arg2 harg2 arg3 harg3 arg4 harg4 arg5 harg5 arg6 harg6 arg7 harg7 arg8 harg8 arg9 harg9 arg10 harg10 k0_h1 X n).2.2, y ∈ p.1.set)
  | 0, _ => ⟨fun _ h => absurd h (Nat.not_lt_zero _), fun _ h => absurd h (Nat.not_lt_zero _), fun _ h => absurd h (Nat.not_lt_zero _)⟩
  | n + 1, h => by
    obtain ⟨i7, i8, i9⟩ := loop_cover 𝒱 c bd i arg2 harg2 arg3 harg3 arg4 harg4 arg5 harg5 arg6 harg6 arg7 harg7 arg8 harg8 arg9 harg9 arg10 harg10 k0_h1 X n (by omega)
    rw [pb_k0_t1_succ (F := F) 𝒱 c bd i arg2 harg2 arg3 harg3 arg4 harg4 arg5 harg5 arg6 harg6 arg7 harg7 arg8 harg8 arg9 harg9 arg10 harg10 k0_h1 X ⟨n, h⟩]
    exact ⟨fun y hy => cover_append (trip_cover7 𝒱 c bd i arg2 harg2 arg3 harg3 arg4 harg4 arg5 harg5 arg6 harg6 arg7 harg7 arg8 harg8 arg9 harg9 arg10 harg10 k0_h1 X ⟨n, h⟩ y) (i7 y) hy, fun y hy => cover_append (trip_cover8 𝒱 c bd i arg2 harg2 arg3 harg3 arg4 harg4 arg5 harg5 arg6 harg6 arg7 harg7 arg8 harg8 arg9 harg9 arg10 harg10 k0_h1 X ⟨n, h⟩ y) (i8 y) hy,
      fun y hy => cover_append (trip_cover9 𝒱 c bd i arg2 harg2 arg3 harg3 arg4 harg4 arg5 harg5 arg6 harg6 arg7 harg7 arg8 harg8 arg9 harg9 arg10 harg10 k0_h1 X ⟨n, h⟩ y) (i9 y) hy⟩

/-- The loop runs four times. -/
theorem trips_eq : k0_t1_loop.trips = 4 := by decide +kernel

/-- After the loop the three arrays read as the codes, the scales and the dequantized values of the block of tokens. -/
theorem loop_reads (𝒱 : Variants) (c : Dev nD) (bd : Option 𝒱.V) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (k0_h1 : k0_cond1 i = 1#1) (X : BufTy.Contents (Elt F) arg2.view.ty) (G7 : BufTy.Contents (Elt F) arg7.view.ty) (G8 : BufTy.Contents (Elt F) arg8.view.ty) (G9 : BufTy.Contents (Elt F) arg9.view.ty) :
    arg7.view.read (Elt F) (arg7.view.writes (Elt F) G7 (pb_k0_t1 (F := F) 𝒱 c bd i arg2 harg2 arg3 harg3 arg4 harg4 arg5 harg5 arg6 harg6 arg7 harg7 arg8 harg8 arg9 harg9 arg10 harg10 k0_h1 X k0_t1_loop.trips).1) = DC (arg2.view.read (Elt F) X)
      ∧ arg8.view.read (Elt F) (arg8.view.writes (Elt F) G8 (pb_k0_t1 (F := F) 𝒱 c bd i arg2 harg2 arg3 harg3 arg4 harg4 arg5 harg5 arg6 harg6 arg7 harg7 arg8 harg8 arg9 harg9 arg10 harg10 k0_h1 X k0_t1_loop.trips).2.1) = DS (arg2.view.read (Elt F) X)
      ∧ arg9.view.read (Elt F) (arg9.view.writes (Elt F) G9 (pb_k0_t1 (F := F) 𝒱 c bd i arg2 harg2 arg3 harg3 arg4 harg4 arg5 harg5 arg6 harg6 arg7 harg7 arg8 harg8 arg9 harg9 arg10 harg10 k0_h1 X k0_t1_loop.trips).2.2) = DB (arg2.view.read (Elt F) X) := by
  obtain ⟨p7, p8, p9⟩ := loop_pieces 𝒱 c bd i arg2 harg2 arg3 harg3 arg4 harg4 arg5 harg5 arg6 harg6 arg7 harg7 arg8 harg8 arg9 harg9 arg10 harg10 k0_h1 X _ le_rfl
  obtain ⟨c7, c8, c9⟩ := loop_cover 𝒱 c bd i arg2 harg2 arg3 harg3 arg4 harg4 arg5 harg5 arg6 harg6 arg7 harg7 arg8 harg8 arg9 harg9 arg10 harg10 k0_h1 X _ le_rfl
  have row (n : ℕ) (h : n < 1024) : n / 256 < k0_t1_loop.trips := by rw [trips_eq]; omega
  exact ⟨read_of_pieces _ _ _ _ (fun y => c7 y (row _ (y 0).isLt)) p7, read_of_pieces _ _ _ _ (fun y => c8 y (row _ (y 0).isLt)) p8,
    read_of_pieces _ _ _ _ (fun y => c9 y (row _ (y 0).isLt)) p9⟩

end Cert.KernelIdeal.Gen
-- ==== Proof.RunA.lean ====
module

public import proofs.«01_k».proof.Proof.Points
public import proofs.«01_k».proof.Proof.TripA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Val
open Idealize.ShloMosaic.Pipeline (Dat Cfg Window BodyObligation cellOf)

variable {F : FTy → Type} [FloatOps F]

local notation "𝕄" => MT nD τ sig Unit (Elt F) ℕ (UR sig nD τ) ℕ

set_option maxHeartbeats 5688000 in
/-- One grid point that is the first of its row of tokens (case A), started with the token block `x0` and the weight block `x1`:
the codes and the scales of both blocks and the product of the two dequantized blocks are left, and the scratch of the tokens
holds the dequantized token block. -/
theorem kernelRunA (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (hc0 : cond0_0 i)
    (x0 : Vec F S1024x2048 .bf16) (x1 : Vec F S1024x2048 .bf16) :
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare (DX (DB x0) (WB x1)) ∗ owns (c : Thread nD τ) arg5 fullShare (WC x1) ∗ owns (c : Thread nD τ) arg6 fullShare (WS x1) ∗ owns (c : Thread nD τ) arg7 fullShare (DC x0) ∗ owns (c : Thread nD τ) arg8 fullShare (DS x0) ∗ owns (c : Thread nD τ) arg9 fullShare (DB x0) ∗ (∃ d, owns (c : Thread nD τ) arg10 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K := by
    intro E K
    simp only [cc0_dgrad_eq_skeleton]; unfold cc0_dgrad_skel
    simp only [k0_part171_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part172_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part173_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg2.eq_unread hf0; obtain rfl := harg3.eq_unread hf1
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; swap; · iexact H2
      ipureintro
      refine read_of_pieces _ _ _ (DX (DB x0) (WB x1)) (View.cover_of_tiledL _ ![1024, 1024] (by sl_kernel_rfl)) ⟨fun j => ?_, trivial⟩
      refine (congrFun (congrArg₂ k0_pay811 (x' := DB x0) (y' := WB x1) ?_ ?_) j).trans (congrArg (DX (DB x0) (WB x1)) (emb_full inb_S1024x1024_S1024x1024_0_0 j).symm)
      · exact (View.readAt_full _ _ inb_S1024x2048_S1024x2048_0_0).trans ((loop_reads Variants.none c none i arg2 harg2 arg3 harg3 arg4 harg4 arg5 harg5 arg6 harg6 arg7 harg7 arg8 harg8 arg9 harg9 arg10 harg10 hc0 (harg2.unread x0) f5 f6 fs0).2.2.trans (by rw [hf0]))
      · refine (View.readAt_full _ _ inb_S1024x2048_S1024x2048_0_0).trans ?_
        refine (read_of_pieces _ _ _ (WB (View.read (Elt F) arg3.view (harg3.unread x1))) (View.cover_of_tiledL _ ![128, 128] (by sl_kernel_rfl)) ?_).trans (by rw [hf1])
        iterate 128 refine ⟨fun j => Eq.trans ?_ (wb_piece _ (by decide) rfl rfl j), ?_⟩; (· rfl)
        trivial
    isplitl [H3]
    · iexists _; isplitr; swap; · iexact H3
      ipureintro
      refine (read_of_pieces _ _ _ (WC (View.read (Elt F) arg3.view (harg3.unread x1))) (View.cover_of_tiledL _ ![128, 128] (by sl_kernel_rfl)) ?_).trans (by rw [hf1])
      iterate 128 refine ⟨fun j => Eq.trans ?_ (wc_piece _ (by decide) rfl rfl j), ?_⟩; (· rfl)
      trivial
    isplitl [H4]
    · iexists _; isplitr; swap; · iexact H4
      ipureintro
      refine (read_of_pieces _ _ _ (WS (View.read (Elt F) arg3.view (harg3.unread x1))) (View.cover_of_tiledL _ ![1, 16] (by sl_kernel_rfl)) ?_).trans (by rw [hf1])
      refine ⟨fun j => Eq.trans ?_ (ws_piece _ 7 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 6 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 5 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 4 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 3 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 2 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 1 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 0 (by decide) (by decide) concatenates_S1x1_S1x1_S1x1_S1x1_S1x1_S1x1_S1x1_S1x1_S1x1_S1x1_S1x1_S1x1_S1x1_S1x1_S1x1_S1x1_S1x16_d1 j), ?_⟩; (· rfl)
      trivial
    isplitl [H5]
    · iexists _; isplitr; swap; · iexact H5
      ipureintro
      exact (loop_reads Variants.none c none i arg2 harg2 arg3 harg3 arg4 harg4 arg5 harg5 arg6 harg6 arg7 harg7 arg8 harg8 arg9 harg9 arg10 harg10 hc0 (harg2.unread x0) f5 f6 fs0).1.trans (by rw [hf0])
    isplitl [H6]
    · iexists _; isplitr; swap; · iexact H6
      ipureintro
      exact (loop_reads Variants.none c none i arg2 harg2 arg3 harg3 arg4 harg4 arg5 harg5 arg6 harg6 arg7 harg7 arg8 harg8 arg9 harg9 arg10 harg10 hc0 (harg2.unread x0) f5 f6 fs0).2.1.trans (by rw [hf0])
    isplitl [HS0]
    · iexists _; isplitr; swap; · iexact HS0
      ipureintro
      exact (loop_reads Variants.none c none i arg2 harg2 arg3 harg3 arg4 harg4 arg5 harg5 arg6 harg6 arg7 harg7 arg8 harg8 arg9 harg9 arg10 harg10 hc0 (harg2.unread x0) f5 f6 fs0).2.2.trans (by rw [hf0])
    · iexists _, _; isplitr; swap; · iexact HS1
      ipureintro; rfl

end Cert.KernelIdeal.Gen

end
-- ==== Proof.RunB.lean ====
module

public import proofs.«01_k».proof.Proof.Points
public import proofs.«01_k».proof.Proof.Quant

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Val
open Idealize.ShloMosaic.Pipeline (Dat Cfg Window BodyObligation cellOf)

variable {F : FTy → Type} [FloatOps F]

local notation "𝕄" => MT nD τ sig Unit (Elt F) ℕ (UR sig nD τ) ℕ

set_option maxHeartbeats 5544000 in
/-- One grid point that is not the first of its row of tokens (case B), started with the weight block `x1` and with the
dequantized tokens `x9` in the scratch: the codes and the scales of the weight block and the product of the two dequantized
blocks are left, and the scratch of the tokens is as it was. -/
theorem kernelRunB (c : Dev nD) (i : grid0.Coords) (arg2 : Memref sig .tc .vmem S1024x2048 .bf16) (harg2 : arg2.IsWhole) (arg3 : Memref sig .tc .vmem S1024x2048 .bf16) (harg3 : arg3.IsWhole) (arg4 : Memref sig .tc .vmem S1024x1024 .bf16) (harg4 : arg4.IsWhole) (arg5 : Memref sig .tc .vmem S1024x2048 .fp8e4m3) (harg5 : arg5.IsWhole) (arg6 : Memref sig .tc .vmem S8x16 .f32) (harg6 : arg6.IsWhole) (arg7 : Memref sig .tc .vmem S1024x2048 .fp8e5m2) (harg7 : arg7.IsWhole) (arg8 : Memref sig .tc .vmem S1024x16 .f32) (harg8 : arg8.IsWhole) (arg9 : Memref sig .tc .vmem S1024x2048 .bf16) (harg9 : arg9.IsWhole) (arg10 : Memref sig .tc .vmem S1024x2048 .bf16) (harg10 : arg10.IsWhole) (hc0 : ¬cond0_0 i)
    (x0 : Vec F S1024x2048 .bf16) (x1 : Vec F S1024x2048 .bf16) (x9 : Vec F S1024x2048 .bf16)  :
      ∀ (E : Set ℕ) (K : PUnit → sProp 𝕄),
        iprop(owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ owns (c : Thread nD τ) arg9 fullShare x9 ∗ (∃ d, owns (c : Thread nD τ) arg10 fullShare d)
            ∗ (iprop(owns (c : Thread nD τ) arg3 fullShare x1 ∗ owns (c : Thread nD τ) arg4 fullShare (DX x9 (WB x1)) ∗ owns (c : Thread nD τ) arg5 fullShare (WC x1) ∗ owns (c : Thread nD τ) arg6 fullShare (WS x1) ∗ owns (c : Thread nD τ) arg9 fullShare x9 ∗ (∃ d, owns (c : Thread nD τ) arg10 fullShare d)) -∗ K ⟨⟩))
          ⊢ wp frame (wpE (defs₀ (F := F)) Variants.none c none) E (cc0_dgrad i arg2 harg2 arg3 harg3 arg4 harg4 arg5 harg5 arg6 harg6 arg7 harg7 arg8 harg8 arg9 harg9 arg10 harg10) K := by
    intro E K
    simp only [cc0_dgrad_eq_skeleton]; unfold cc0_dgrad_skel
    simp only [k0_part171_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part172_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part173_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton]
    unfold owns
    iintro ⟨⟨%f1, %hf1, H1⟩, ⟨%d2, %f2, -, H2⟩, ⟨%d3, %f3, -, H3⟩, ⟨%d4, %f4, -, H4⟩, ⟨%f9, %hf9, HS0⟩, ⟨%ds1, %fs1, -, HS1⟩, Hk⟩
    obtain rfl := harg3.eq_unread hf1; obtain rfl := harg9.eq_unread hf9
    sl_exec (disch := first | sl_exact hc0)
    sl_step
    iapply Hk
    isplitl [H1]
    · iexists _; isplitr; · ipureintro; exact harg3.read_unread _
      iexact H1
    isplitl [H2]
    · iexists _; isplitr; swap; · iexact H2
      ipureintro
      refine read_of_pieces _ _ _ (DX x9 (WB x1)) (View.cover_of_tiledL _ ![1024, 1024] (by sl_kernel_rfl)) ⟨fun j => ?_, trivial⟩
      refine (congrFun (congrArg₂ k0_pay811 (x' := x9) (y' := WB x1) ?_ ?_) j).trans (congrArg (DX x9 (WB x1)) (emb_full inb_S1024x1024_S1024x1024_0_0 j).symm)
      · exact (View.readAt_full _ _ inb_S1024x2048_S1024x2048_0_0).trans hf9
      · refine (View.readAt_full _ _ inb_S1024x2048_S1024x2048_0_0).trans ?_
        refine (read_of_pieces _ _ _ (WB (View.read (Elt F) arg3.view (harg3.unread x1))) (View.cover_of_tiledL _ ![128, 128] (by sl_kernel_rfl)) ?_).trans (by rw [hf1])
        iterate 128 refine ⟨fun j => Eq.trans ?_ (wb_piece _ (by decide) rfl rfl j), ?_⟩; (· rfl)
        trivial
    isplitl [H3]
    · iexists _; isplitr; swap; · iexact H3
      ipureintro
      refine (read_of_pieces _ _ _ (WC (View.read (Elt F) arg3.view (harg3.unread x1))) (View.cover_of_tiledL _ ![128, 128] (by sl_kernel_rfl)) ?_).trans (by rw [hf1])
      iterate 128 refine ⟨fun j => Eq.trans ?_ (wc_piece _ (by decide) rfl rfl j), ?_⟩; (· rfl)
      trivial
    isplitl [H4]
    · iexists _; isplitr; swap; · iexact H4
      ipureintro
      refine (read_of_pieces _ _ _ (WS (View.read (Elt F) arg3.view (harg3.unread x1))) (View.cover_of_tiledL _ ![1, 16] (by sl_kernel_rfl)) ?_).trans (by rw [hf1])
      refine ⟨fun j => Eq.trans ?_ (ws_piece _ 7 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 6 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 5 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 4 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 3 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 2 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 1 (by decide) (by decide) concatenates_S1x1_S1x1_S1x1_S1x1_S1x1_S1x1_S1x1_S1x1_S1x1_S1x1_S1x1_S1x1_S1x1_S1x1_S1x1_S1x1_S1x16_d1 j), ?_⟩; (· rfl)
      refine ⟨fun j => Eq.trans ?_ (ws_piece _ 0 (by decide) (by decide) concatenates_S1x1_S1x1_S1x1_S1x1_S1x1_S1x1_S1x1_S1x1_S1x1_S1x1_S1x1_S1x1_S1x1_S1x1_S1x1_S1x1_S1x16_d1 j), ?_⟩; (· rfl)
      trivial
    isplitl [HS0]
    · iexists _; isplitr; · ipureintro; exact harg9.read_unread _
      iexact HS0
    iexists _, _; isplitr; swap; · iexact HS1
    ipureintro; rfl

end Cert.KernelIdeal.Gen

end
-- ==== Proof.Dats.lean ====
module

public import proofs.«01_k».proof.Proof.RunA
public import proofs.«01_k».proof.Proof.RunB
public import Idealize.ShloMosaic.Lib.Pipeline.ValueKit.Point

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Val
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the windows' blocks lie -/

/-- Point t is tokens' block t / 16 against weight block t % 16. -/
theorem idx0 : ∀ t : Fin cfg0.N, win0_0.index t = ![t.val / 16, 0] ∧ win0_1.index t = ![t.val % 16, 0] ∧ win0_2.index t = ![t.val / 16, t.val % 16]
    ∧ win0_3.index t = ![t.val % 16, 0] ∧ win0_4.index t = ![t.val % 16, 0] ∧ win0_5.index t = ![t.val / 16, 0] ∧ win0_6.index t = ![t.val / 16, 0] := by
  decide +kernel

/-- Block b of 1024 rows of the tokens' array. -/
def tokBlk (A : Vec F S12288x2048 .bf16) (b : ℕ) : Vec F S1024x2048 .bf16 := fun j =>
  A fun | ⟨0, _⟩ => ⟨(1024 * b + (j 0).val) % 12288, Nat.mod_lt _ (by decide)⟩ | ⟨1, _⟩ => ⟨(j 1).val, (j 1).isLt⟩

/-- Block b of 1024 rows of the weight. -/
def wBlk (A : Vec F S16384x2048 .bf16) (b : ℕ) : Vec F S1024x2048 .bf16 := fun j =>
  A fun | ⟨0, _⟩ => ⟨(1024 * b + (j 0).val) % 16384, Nat.mod_lt _ (by decide)⟩ | ⟨1, _⟩ => ⟨(j 1).val, (j 1).isLt⟩

/-- The tokens as a matrix, and the weight, as the launch finds them. -/
abbrev Tok (c : Dev nD) : Vec F S12288x2048 .bf16 := V m c main_v0
abbrev Wgt (c : Dev nD) : Vec F S16384x2048 .bf16 := V m c main_arg0

/-- The tokens' block of a point is block t / 16 of the array. -/
theorem iblk0_eq (c : Dev nD) (t : Fin cfg0.N) : iblk m c 0 t = tokBlk (Tok m c) (t.val / 16) := by
  have hN : t.val < 192 := lt_of_lt_of_eq t.isLt (show cfg0.N = 192 from N_0)
  funext j
  unfold tokBlk
  have h0 : ((j 0 : Fin _) : ℕ) < 1024 := (j 0).isLt
  blk_simp [iblk]
  refine congrArg (V m c main_v0) (funext fun a => Fin.ext ?_)
  match a with
  | ⟨0, _⟩ =>
    blk_simp [(idx0 t).1]
    show t.val / 16 * 1024 + (j 0).val = (1024 * (t.val / 16) + (j 0).val) % 12288
    omega
  | ⟨1, _⟩ => blk_simp [(idx0 t).1]; rfl

/-- The weight's block of a point is block t % 16 of the weight. -/
theorem iblk1_eq (c : Dev nD) (t : Fin cfg0.N) : iblk m c 1 t = wBlk (Wgt m c) (t.val % 16) := by
  funext j
  unfold wBlk
  have h0 : ((j 0 : Fin _) : ℕ) < 1024 := (j 0).isLt
  blk_simp [iblk]
  refine congrArg (V m c main_arg0) (funext fun a => Fin.ext ?_)
  match a with
  | ⟨0, _⟩ =>
    blk_simp [(idx0 t).2.1]
    show t.val % 16 * 1024 + (j 0).val = (1024 * (t.val % 16) + (j 0).val) % 16384
    omega
  | ⟨1, _⟩ => blk_simp [(idx0 t).2.1]; rfl

/-! ## What the kernel leaves at each point -/

/-- The point's dequantized tokens and weight, and what it leaves in each window and in the scratch: the inputs' windows are
left as they are; the product; the weight's codes and scales; the tokens' codes and scales (which stay in their windows until
the last point of the row). After a point the scratch holds the dequantized tokens of its row. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => DX (DB (tokBlk (Tok m c) (t.val / 16))) (WB (wBlk (Wgt m c) (t.val % 16)))
    | ⟨3, _⟩ => WC (wBlk (Wgt m c) (t.val % 16))
    | ⟨4, _⟩ => WS (wBlk (Wgt m c) (t.val % 16))
    | ⟨5, _⟩ => DC (tokBlk (Tok m c) (t.val / 16))
    | ⟨6, _⟩ => DS (tokBlk (Tok m c) (t.val / 16))
  Φ p := iprop(((∃ d, ⌜0 < p.val → d = DB (tokBlk (Tok m c) ((p.val - 1) / 16))⌝ ∗ owns (c : Thread nD τ) scM0_0 fullShare d)
    ∗ (∃ d, owns (c : Thread nD τ) scM0_1 fullShare d)) ∗ (∃ r, prngReg c r))
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = DX (DB (tokBlk (Tok m c) (t.val / 16))) (WB (wBlk (Wgt m c) (t.val % 16))) := by dsimp only [dats]
theorem after0_3 (c : Dev nD) (t : Fin cfg0.N) : (dats m 0 c).after 3 t = WC (wBlk (Wgt m c) (t.val % 16)) := by dsimp only [dats]
theorem after0_4 (c : Dev nD) (t : Fin cfg0.N) : (dats m 0 c).after 4 t = WS (wBlk (Wgt m c) (t.val % 16)) := by dsimp only [dats]
theorem after0_5 (c : Dev nD) (t : Fin cfg0.N) : (dats m 0 c).after 5 t = DC (tokBlk (Tok m c) (t.val / 16)) := by dsimp only [dats]
theorem after0_6 (c : Dev nD) (t : Fin cfg0.N) : (dats m 0 c).after 6 t = DS (tokBlk (Tok m c) (t.val / 16)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The tokens' codes and scales stay in their windows through a row -/

/-- Windows 5 and 6 are written at the first point of a row and are idle at its other points. -/
theorem idle0_5 (t : Fin cfg0.N) : cfg0.idle 5 (grid0.coords t) = decide (t.val % 16 ≠ 0) := by
  have h := hcond0_0 t
  show (!(k0_cond1 (grid0.coords t) == 1#1)) = _
  by_cases h0 : t.val % 16 = 0
  · rw [show k0_cond1 (grid0.coords t) = 1#1 from h.mpr h0]; simp [h0]
  · have : ¬ k0_cond1 (grid0.coords t) = 1#1 := fun e => h0 (h.mp e)
    simp [h0, this]
theorem idle0_6 (t : Fin cfg0.N) : cfg0.idle 6 (grid0.coords t) = decide (t.val % 16 ≠ 0) := idle0_5 t

/-- A block that a row's first point leaves in window w (5 or 6) is what the row's other points find there. -/
theorem before_row (c : Dev nD) (w : Fin 7) (G : ℕ → (cfg0.win w).block.Idx → Elt F (cfg0.win w).elt)
    (hafter : ∀ t, (dats m 0 c).after w t = G (t.val / 16)) (hkept : ∀ t d, (dats m 0 c).kept w t d = (dats m 0 c).after w t)
    (hfetch : ∀ t, (cfg0.win w).fetch t = false) (hflush : ∀ t, (cfg0.win w).flush t = true ↔ t.val % 16 = 15)
    (hidle : ∀ t, cfg0.idle w (grid0.coords t) = decide (t.val % 16 ≠ 0)) :
    ∀ n, ∀ t : Fin cfg0.N, t.val = n → n % 16 ≠ 0 → ∀ d, (dats m 0 c).before w t d = G (t.val / 16)
  | 0, _, _, h, _ => absurd rfl h
  | n + 1, t, ht, h, d => by
    have hlt : n < cfg0.N := by have := t.isLt; omega
    rw [(dats m 0 c).before_of_pos w t (by omega) (hfetch t) d]
    have e : (⟨t.val - 1, Nat.lt_of_le_of_lt (Nat.sub_le _ _) t.isLt⟩ : Fin cfg0.N) = ⟨n, hlt⟩ := Fin.ext (by show t.val - 1 = n; omega)
    have hd : n / 16 = t.val / 16 := by omega
    rw [e, if_neg (fun hc => by have := (hflush ⟨n, hlt⟩).mp hc; simp only at this; omega)]
    unfold Dat.left
    rw [hidle ⟨n, hlt⟩]
    by_cases h0 : n % 16 = 0
    · simp only [h0, ne_eq, not_true_eq_false, decide_false]
      rw [hkept, hafter, ← hd]
    · simp only [h0, ne_eq, not_false_eq_true, decide_true]
      rw [before_row c w G hafter hkept hfetch hflush hidle n ⟨n, hlt⟩ rfl h0 d, ← hd]

theorem before0_5 (c : Dev nD) (t : Fin cfg0.N) (h : t.val % 16 ≠ 0) (d) : (dats m 0 c).before 5 t d = DC (tokBlk (Tok m c) (t.val / 16)) :=
  before_row m c 5 (fun b => DC (tokBlk (Tok m c) b)) (after0_5 m c) (fun _ _ => rfl) (fun _ => rfl) flush0_5 idle0_5 t.val t rfl h d
theorem before0_6 (c : Dev nD) (t : Fin cfg0.N) (h : t.val % 16 ≠ 0) (d) : (dats m 0 c).before 6 t d = DS (tokBlk (Tok m c) (t.val / 16)) :=
  before_row m c 6 (fun b => DS (tokBlk (Tok m c) b)) (after0_6 m c) (fun _ _ => rfl) (fun _ => rfl) flush0_6 idle0_6 t.val t rfl h d

/-- At the first point of a row windows 5 and 6 are left at the row's codes and scales. -/
theorem leaves0_5_first (c : Dev nD) (t : Fin cfg0.N) (h : t.val % 16 = 0) :
    (dats m 0 c).leavesExact 5 t = owns (c : Thread nD τ) (ms0_5 t) fullShare (DC (tokBlk (Tok m c) (t.val / 16))) := by
  unfold Dat.leavesExact; rw [idle0_5 t, after0_5]; simp only [h, ne_eq, not_true_eq_false, decide_false]
theorem leaves0_6_first (c : Dev nD) (t : Fin cfg0.N) (h : t.val % 16 = 0) :
    (dats m 0 c).leavesExact 6 t = owns (c : Thread nD τ) (ms0_6 t) fullShare (DS (tokBlk (Tok m c) (t.val / 16))) := by
  unfold Dat.leavesExact; rw [idle0_6 t, after0_6]; simp only [h, ne_eq, not_true_eq_false, decide_false]

/-- At the other points of a row the windows, still at the row's codes and scales, are left as the loop wants them. -/
theorem leaves0_5_rest (c : Dev nD) (t : Fin cfg0.N) (h : t.val % 16 ≠ 0) :
    (owns (c : Thread nD τ) (ms0_5 t) fullShare (DC (tokBlk (Tok m c) (t.val / 16))) : sProp 𝕄) ⊢ (dats m 0 c).leavesExact 5 t := by
  by_cases hf : (cfg0.win 5).flush t = true
  · unfold Dat.leavesExact; rw [idle0_5 t, hf, after0_5]; simp only [h, ne_eq, not_false_eq_true, decide_true]; exact .rfl
  · rw [(dats m 0 c).leavesExact_idle 5 t ((idle0_5 t).trans (by simp [h])) (by simpa using hf)]
    simp only [before0_5 m c t h]
    iintro H; iexists DC (tokBlk (Tok m c) (t.val / 16)); iexact H
theorem leaves0_6_rest (c : Dev nD) (t : Fin cfg0.N) (h : t.val % 16 ≠ 0) :
    (owns (c : Thread nD τ) (ms0_6 t) fullShare (DS (tokBlk (Tok m c) (t.val / 16))) : sProp 𝕄) ⊢ (dats m 0 c).leavesExact 6 t := by
  by_cases hf : (cfg0.win 6).flush t = true
  · unfold Dat.leavesExact; rw [idle0_6 t, hf, after0_6]; simp only [h, ne_eq, not_false_eq_true, decide_true]; exact .rfl
  · rw [(dats m 0 c).leavesExact_idle 6 t ((idle0_6 t).trans (by simp [h])) (by simpa using hf)]
    simp only [before0_6 m c t h]
    iintro H; iexists DS (tokBlk (Tok m c) (t.val / 16)); iexact H

end Cert.KernelIdeal.Gen

end
-- ==== Proof.KernelFrame.lean ====
module

public import proofs.«01_k».proof.Proof.Dats

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Val
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at one grid point -/

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

/-- The invariant between points: after the first point the scratch holds the dequantized tokens of the last point's row. -/
theorem Phi_eq (c : Dev nD) (p : Fin (cfg0.N + 1)) : (dats m 0 c).Φ p
    = iprop(((∃ d, ⌜0 < p.val → d = DB (tokBlk (Tok m c) ((p.val - 1) / 16))⌝ ∗ owns (c : Thread nD τ) scM0_0 fullShare d)
    ∗ (∃ d, owns (c : Thread nD τ) scM0_1 fullShare d)) ∗ (∃ r, prngReg c r)) := by dsimp only [dats]

/-- A window that is never idle is left at what the point computes. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [h]

set_option maxHeartbeats 1600000 in
/-- The body at any point: at the first point of a row it computes both blocks' codes and scales, at the others the weight's
alone, with the tokens' dequantized block in the scratch from the point before. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [Phi_eq, Phi_eq, leaves_live m c 0 t rfl, leaves_live m c 1 t rfl, leaves_live m c 2 t rfl, leaves_live m c 3 t rfl, leaves_live m c 4 t rfl,
    after0_0, after0_1, after0_2, after0_3, after0_4, iblk0_eq, iblk1_eq]
  have hN : t.val < 192 := lt_of_lt_of_eq t.isLt (show cfg0.N = 192 from N_0)
  have hs : 0 < t.succ.val → DB (tokBlk (Tok m c) (t.val / 16)) = DB (tokBlk (Tok m c) ((t.succ.val - 1) / 16)) := fun _ => rfl
  by_cases h0 : t.val % 16 = 0
  · rw [leaves0_5_first m c t h0, leaves0_6_first m c t h0]
    iintro ⟨⟨⟨⟨%d9, -, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    iapply ((kernelRunA c (grid0.coords t) _ _ _ _ _ _ _ _ _ _ _ _ _ _ _ _ _ _ ((hcond0_0 t).mpr h0) (tokBlk (Tok m c) (t.val / 16)) (wBlk (Wgt m c) (t.val % 16))) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    isplitl [H6]; · iexists _; iexact H6
    isplitl [HS0]; · iexists _; iexact HS0
    isplitl [HS1]; · iexact HS1
    iintro ⟨H0, H1, H2, H3, H4, H5, H6, HS0, HS1⟩
    isplitl [HS0 HS1 Hg]
    · isplitl [HS0 HS1]
      · isplitl [HS0]
        · iexists _; isplitr; swap; · iexact HS0
          ipureintro; exact hs
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · simp only [before0_5 m c t h0, before0_6 m c t h0]
    iintro ⟨⟨⟨⟨%d9, %h9, HS0⟩, HS1⟩, Hg⟩, Ho, ⟨%d0, H0⟩, ⟨%d1, H1⟩, ⟨%d2, H2⟩, ⟨%d3, H3⟩, ⟨%d4, H4⟩, ⟨%d5, H5⟩, ⟨%d6, H6⟩⟩
    have e9 : d9 = DB (tokBlk (Tok m c) (t.val / 16)) :=
      (h9 (show 0 < t.val by omega)).trans (by rw [show (t.castSucc.val - 1) / 16 = t.val / 16 by show (t.val - 1) / 16 = _; omega])
    subst e9
    iapply ((kernelRunB c (grid0.coords t) _ _ _ _ _ _ _ _ _ _ _ _ _ _ _ _ _ _ (fun h => h0 ((hcond0_0 t).mp h)) (tokBlk (Tok m c) (t.val / 16)) (wBlk (Wgt m c) (t.val % 16)) (DB (tokBlk (Tok m c) (t.val / 16)))) Set.univ _)
    isplitl [H1]; · iexact H1
    isplitl [H2]; · iexists _; iexact H2
    isplitl [H3]; · iexists _; iexact H3
    isplitl [H4]; · iexists _; iexact H4
    isplitl [HS0]; · iexact HS0
    isplitl [HS1]; · iexact HS1
    iintro ⟨H1, H2, H3, H4, HS0, HS1⟩
    isplitl [HS0 HS1 Hg]
    · isplitl [HS0 HS1]
      · isplitl [HS0]
        · iexists _; isplitr; swap; · iexact HS0
          ipureintro; exact hs
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iapply (leaves0_5_rest m c t h0); iexact H5
    iapply (leaves0_6_rest m c t h0); iexact H6

/-- The body table's row at point t's slots is the body. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- Before the first point the scratch holds anything, -/
theorem Phi_first (c : Dev nD) : Pipeline.ΦA spec0 c ⊢ (dats m 0 c).Φ 0 := by
  rw [PhiA0_eq, Phi_eq]
  iintro ⟨⟨⟨%d, HS0⟩, HS1⟩, Hg⟩
  isplitl [HS0 HS1]
  · isplitl [HS0]
    · iexists d; isplitr; swap; · iexact HS0
      ipureintro; exact fun h => absurd h (lt_irrefl 0)
    iexact HS1
  iexact Hg

/-- and after the last nothing of it is kept. -/
theorem Phi_last (c : Dev nD) : (dats m 0 c).Φ (Fin.last cfg0.N) ⊢ Pipeline.ΦA spec0 c := by
  rw [PhiA0_eq, Phi_eq]
  iintro ⟨⟨⟨%d, -, HS0⟩, HS1⟩, Hg⟩
  isplitl [HS0 HS1]
  · isplitl [HS0]
    · iexists d; iexact HS0
    iexact HS1
  iexact Hg

set_option backward.isDefEq.respectTransparency.types false in
set_option maxHeartbeats 800000 in
/-- The launch: every execution ends, with every array of the kernel at what the points wrote there, every other buffer as
the host operations leave it, and every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := Phi_first m) (hout := Phi_last m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays end unchanged, -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

/-- and the semaphore counters at zero: the frame claim. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (unchanged m ρ) ((θ_run defs _ _).mono (fun _ h => h.2) (run_main_quiescent m ρ))

end Cert.KernelIdeal.Gen

end
-- ==== Proof.KernelMirror.lean ====
/- The program `Kernel` and the program `KernelIdeal` are one text, so what is shown of the second at any float instance
   is shown of the first. -/
module

public import proofs.«01_k».proof.Proof.KernelFrame
public import proofs.«01_k».proof.Proof.Gen.Kernel

@[expose] public section

set_option maxRecDepth 100000

noncomputable section

namespace Cert.Kernel.Gen

open Idealize.ShloMosaic Idealize.SL.Sem

variable {F : FTy → Type} [FloatOps F]

attribute [local instance] Cert.Kernel.Gen.facts

/-- The bodies of the two programs are one program. -/
theorem body_eq : @Cert.Kernel.cc0_dgrad F _ Cert.Kernel.Gen.facts = @Cert.KernelIdeal.cc0_dgrad F _ Cert.KernelIdeal.Gen.facts := rfl

/-- So are their body tables, -/
theorem defs₀_eq : @Cert.Kernel.defs₀ F _ Cert.Kernel.Gen.facts = @Cert.KernelIdeal.defs₀ F _ Cert.KernelIdeal.Gen.facts := by
  refine congrArg Defs.onTc (funext fun l => funext fun x => ?_)
  match l, x with
  | 0, (t, s) => rfl

/-- the tables with the pipeline's own labels added, -/
theorem defs_eq : @Cert.Kernel.defs F _ Cert.Kernel.Gen.facts = @Cert.KernelIdeal.defs F _ Cert.KernelIdeal.Gen.facts :=
  congrArg (Pipeline.defs (@Cert.KernelIdeal.pcfgs F Cert.KernelIdeal.Gen.facts)) defs₀_eq

/-- and their mains. -/
theorem main_eq : @Cert.Kernel.main F Cert.Kernel.Gen.facts = @Cert.KernelIdeal.main F Cert.KernelIdeal.Gen.facts := rfl

/-- The frame of `Kernel` at any float instance: it runs, its arguments end unchanged and its semaphores at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.KernelIdeal.Gen.frame m ρ

end Cert.Kernel.Gen

end
-- ==== Proof.Words.lean ====
/-
  The 256 exponent words k · 2²³, and the greatest of the first of them.
-/
module

public import Idealize.ShloMosaic.Lib.Pointwise

@[expose] public section

noncomputable section

namespace Cert.Scale

open Idealize.ShloMosaic

/-- The word of exponent field k, its other bits zero. -/
def fieldWord (k : Nat) : BitVec 32 := IntOp.shli ArithUnit.vector (BitVec.ofNat 32 k) 23#32

/-- The three fields of an exponent word. -/
theorem fieldWord_fields : ∀ k : Fin 255, (fieldWord k.val).extractLsb' 31 1 = 0#1 ∧ ((fieldWord k.val).extractLsb' 23 8).toNat = k.val
    ∧ ((fieldWord k.val).extractLsb' 0 23).toNat = 0 := by decide +kernel

/-- The fold over the words whose number is at most K is the word K. -/
theorem fold_words : ∀ K : Fin 253, Finset.fold IntOp.maxsi (2147483648#32)
    (fun k : Fin 256 => if k.val ≤ K.val then fieldWord k else 0#32) Finset.univ = fieldWord K := by decide +kernel

end Cert.Scale

end
-- ==== Proof.Scale.lean ====
/-
  The scale of one group of values, by words and by logarithms.

  The kernel finds the exponent field of a ratio x as the greatest of the 256 words k · 2²³ whose float is at most x,
  adds one to the field and reads the words of the scale and of its inverse as floats. The reference takes the exponent
  e = ⌊log x / log 2⌋ + 1 (zero below the least normal number) and the powers 2^e and 2^-e. For 0 ≤ x < 2^126 the two are equal.
-/
module

public import proofs.«01_k».proof.Proof.Words

@[expose] public section

noncomputable section

namespace Cert.Scale

open Idealize.ShloMosaic

/-- The greatest exponent word whose float is at most x, as the kernel takes it. -/
def expField (x : EReal) : BitVec 32 :=
  Finset.fold IntOp.maxsi (2147483648#32)
    (fun k : Fin 256 => if Ideal.ofBits FTy.f32 (fieldWord k) ≤ x then fieldWord k else 0#32) Finset.univ

/-- One more in the exponent field, and the word of 1.0 where the field of the result is 0 or 1. -/
def bump (w : BitVec 32) : BitVec 32 :=
  Scalar.select (IntOp.cmpi CmpIPredicate.eq (IntOp.andi (IntOp.addi w 8388608#32) 2130706432#32) 0#32) (1065353216#32)
    (IntOp.addi w 8388608#32)

/-- The kernel's word for the scale of the ratio x. -/
def scaleWord (x : EReal) : BitVec 32 := bump (expField x)

/-- The kernel's scale, -/
def kScale (x : EReal) : EReal := Ideal.ofBits FTy.f32 (scaleWord x)
/-- and its inverse of the scale. -/
def kInv (x : EReal) : EReal := Ideal.ofBits FTy.f32 (IntOp.subi (2130706432#32) (scaleWord x))

/-- The float of an exponent word: zero at field 0, -/
theorem ofBits_field_zero : Ideal.ofBits FTy.f32 (fieldWord 0) = 0 := by
  simp [Ideal.ofBits, Ideal.ieee, fieldWord, IntOp.shli]

/-- A normal positive number of a format from its fields. -/
theorem ieee_pos (e m : Nat) {w : Nat} (b : BitVec w) (ex fr : Nat) (hs : b.extractLsb' (e + m) 1 = 0#1) (he : (b.extractLsb' m e).toNat = ex)
    (hf : (b.extractLsb' 0 m).toNat = fr) (h1 : ¬ ex = 2 ^ e - 1) (h2 : ¬ ex = 0) :
    Ideal.ieee e m b = ((((2 ^ m + fr : ℕ) : ℝ) * (2 : ℝ) ^ ((ex : ℤ) - (2 ^ (e - 1) - 1) - m) : ℝ) : EReal) := by
  unfold Ideal.ieee
  simp only [hs, he, hf]
  rw [if_neg h1, if_neg h2, if_neg (by decide), one_mul]

/-- A normal float of sign 0, exponent field k and fraction 0. -/
theorem ofBits_of_fields (b : BitVec 32) (k : Nat) (h1 : 1 ≤ k) (h2 : k ≤ 254) (hs : b.extractLsb' 31 1 = 0#1)
    (he : (b.extractLsb' 23 8).toNat = k) (hf : (b.extractLsb' 0 23).toNat = 0) :
    Ideal.ofBits FTy.f32 b = (((2 : ℝ) ^ ((k : ℤ) - 127) : ℝ) : EReal) := by
  have e3 : ((2 ^ 23 + 0 : ℕ) : ℝ) = (2 : ℝ) ^ (23 : ℤ) := by norm_num
  have e4 : (2 : ℝ) ^ (23 : ℤ) * (2 : ℝ) ^ ((k : ℤ) - 127 - ((23 : ℕ) : ℤ)) = (2 : ℝ) ^ ((k : ℤ) - 127) := by
    rw [← zpow_add₀ (by norm_num)]; congr 1; push_cast; ring
  have e5 : ((2 : ℤ) ^ (8 - 1) - 1) = 127 := by norm_num
  refine (ieee_pos 8 23 b k 0 hs he hf ?_ ?_).trans ?_
  · norm_num; omega
  · omega
  · rw [e5, e3, e4]

/-- and a power of two at the fields 1 to 254. -/
theorem ofBits_field (k : Nat) (h1 : 1 ≤ k) (h2 : k ≤ 254) :
    Ideal.ofBits FTy.f32 (fieldWord k) = (((2 : ℝ) ^ ((k : ℤ) - 127) : ℝ) : EReal) := by
  obtain ⟨hs, he, hf⟩ := fieldWord_fields ⟨k, by omega⟩
  exact ofBits_of_fields _ k h1 h2 hs he hf

/-- and infinity at field 255. -/
theorem ofBits_field_top : Ideal.ofBits FTy.f32 (fieldWord 255) = ⊤ := by
  have h : fieldWord 255 = 0x7F800000#32 := by decide
  rw [h]
  simp [Ideal.ofBits, Ideal.ieee]

/-- The words reached by x are those up to number K: then the kernel's fold is the word K. -/
theorem expField_eq (x : EReal) (K : Fin 253) (h : ∀ k : Fin 256, Ideal.ofBits FTy.f32 (fieldWord k) ≤ x ↔ k.val ≤ K.val) :
    expField x = fieldWord K := by
  rw [← fold_words K]
  unfold expField
  exact congrArg (fun f => Finset.fold IntOp.maxsi (2147483648#32) f Finset.univ) (funext fun k => if_congr (h k) rfl rfl)

/-- Which words a real below 2^126 reaches: number 0 alone below 2^-126, -/
theorem reached_small (x : ℝ) (h0 : 0 ≤ x) (h : x < (2 : ℝ) ^ (-126 : ℤ)) (k : Fin 256) :
    Ideal.ofBits FTy.f32 (fieldWord k) ≤ (x : EReal) ↔ k.val ≤ 0 := by
  obtain ⟨k, hk⟩ := k
  rcases Nat.lt_or_ge k 1 with h1 | h1
  · obtain rfl : k = 0 := by omega
    simp only [ofBits_field_zero]
    exact ⟨fun _ => le_rfl, fun _ => by exact_mod_cast h0⟩
  · refine ⟨fun hle => absurd hle ?_, fun hle => absurd hle (by simp only; omega)⟩
    rw [not_le]
    rcases Nat.lt_or_ge k 255 with h2 | h2
    · simp only [ofBits_field k h1 (by omega)]
      exact EReal.coe_lt_coe_iff.mpr (lt_of_lt_of_le h (zpow_le_zpow_right₀ (by norm_num) (by omega)))
    · obtain rfl : k = 255 := by omega
      simp only [ofBits_field_top]
      exact EReal.coe_lt_top x

/-- and from 2^-126 on the numbers up to ⌊log₂ x⌋ + 127. -/
theorem reached_normal (x : ℝ) (n : ℤ) (hn1 : -126 ≤ n) (hn2 : n < 126) (hl : (2 : ℝ) ^ n ≤ x) (hu : x < (2 : ℝ) ^ (n + 1)) (k : Fin 256) :
    Ideal.ofBits FTy.f32 (fieldWord k) ≤ (x : EReal) ↔ k.val ≤ (n + 127).toNat := by
  have h0 : 0 ≤ x := le_trans (by positivity) hl
  obtain ⟨k, hk⟩ := k
  rcases Nat.lt_or_ge k 1 with h1 | h1
  · obtain rfl : k = 0 := by omega
    simp only [ofBits_field_zero]
    exact ⟨fun _ => by omega, fun _ => by exact_mod_cast h0⟩
  rcases Nat.lt_or_ge k 255 with h2 | h2
  · simp only [ofBits_field k h1 (by omega), EReal.coe_le_coe_iff]
    constructor
    · intro hle
      have : (2 : ℝ) ^ ((k : ℤ) - 127) < (2 : ℝ) ^ (n + 1) := lt_of_le_of_lt hle hu
      have := (zpow_lt_zpow_iff_right₀ (by norm_num : (1 : ℝ) < 2)).mp this
      omega
    · intro hle
      exact le_trans (zpow_le_zpow_right₀ (by norm_num) (by omega)) hl
  · obtain rfl : k = 255 := by omega
    simp only [ofBits_field_top]
    exact ⟨fun hle => absurd hle (not_le.mpr (EReal.coe_lt_top x)), fun hle => by omega⟩

/-- The scale's word from the word K, K at least 1: the word K + 1; its complement to 254 is the inverse's word. -/
theorem bump_words : ∀ K : Fin 252, bump (fieldWord (K.val + 1)) = fieldWord (K.val + 2)
    ∧ IntOp.subi (2130706432#32) (fieldWord (K.val + 2)) = fieldWord (252 - K.val) := by decide +kernel

theorem ofBits_one : Ideal.ofBits FTy.f32 (1065353216#32) = 1 := by
  have h := ofBits_field 127 (by omega) (by omega)
  rw [show fieldWord 127 = 1065353216#32 by decide] at h
  rw [h]; norm_num

/-- Below 2^-126 the kernel's scale is one, and its inverse too. -/
theorem kScale_small (x : ℝ) (h0 : 0 ≤ x) (h : x < (2 : ℝ) ^ (-126 : ℤ)) : kScale (x : EReal) = 1 ∧ kInv (x : EReal) = 1 := by
  have e : scaleWord (x : EReal) = 1065353216#32 := by
    unfold scaleWord
    rw [expField_eq x 0 (fun k => reached_small x h0 h k)]
    decide
  unfold kScale kInv
  rw [e]
  refine ⟨ofBits_one, ?_⟩
  rw [show IntOp.subi (2130706432#32) (1065353216#32) = 1065353216#32 by decide]
  exact ofBits_one

/-- From 2^-126 on it is 2^(n+1), n = ⌊log₂ x⌋, and its inverse 2^-(n+1). -/
theorem kScale_normal (x : ℝ) (n : ℤ) (hn1 : -126 ≤ n) (hn2 : n < 126) (hl : (2 : ℝ) ^ n ≤ x) (hu : x < (2 : ℝ) ^ (n + 1)) :
    kScale (x : EReal) = (((2 : ℝ) ^ (n + 1) : ℝ) : EReal) ∧ kInv (x : EReal) = (((2 : ℝ) ^ (-(n + 1)) : ℝ) : EReal) := by
  obtain ⟨K, hK⟩ : ∃ K : ℕ, n = (K : ℤ) - 126 := ⟨(n + 126).toNat, by omega⟩
  have hK2 : K < 252 := by omega
  have hf := expField_eq x ⟨K + 1, by omega⟩ (fun k => by
    have := reached_normal x n hn1 hn2 hl hu k
    rwa [show (n + 127).toNat = K + 1 by omega] at this)
  obtain ⟨hb, hi⟩ := bump_words ⟨K, hK2⟩
  simp only at hb hi hf
  unfold kScale kInv scaleWord
  rw [hf, hb, hi, ofBits_field _ (by omega) (by omega), ofBits_field _ (by omega) (by omega)]
  constructor
  · congr 2; push_cast; omega
  · congr 2; push_cast [Nat.cast_sub (show K ≤ 252 by omega)]; omega

/-- The reference's exponent of the ratio x: ⌊log x / log 2⌋ + 1, and zero below 2^-126. -/
def rExp (x : EReal) : EReal :=
  if x < Ideal.ofBits FTy.f32 8388608#32 then Ideal.ofBits FTy.f32 0#32
  else Ideal.liftRound Int.floor (Ideal.div (Ideal.log x) (Ideal.log (Ideal.ofBits FTy.f32 1073741824#32))) + Ideal.ofBits FTy.f32 1065353216#32

/-- The reference's scale, -/
def rScale (x : EReal) : EReal := Ideal.pow (Ideal.ofBits FTy.f32 1073741824#32) (rExp x)
/-- and its inverse. -/
def rInv (x : EReal) : EReal := Ideal.pow (Ideal.ofBits FTy.f32 1073741824#32) (-(rExp x))

theorem ofBits_two : Ideal.ofBits FTy.f32 (1073741824#32) = ((2 : ℝ) : EReal) := by
  have h := ofBits_field 128 (by omega) (by omega)
  rw [show fieldWord 128 = 1073741824#32 by decide] at h
  rw [h]; norm_num

theorem ofBits_tiny : Ideal.ofBits FTy.f32 (8388608#32) = (((2 : ℝ) ^ (-126 : ℤ) : ℝ) : EReal) := by
  have h := ofBits_field 1 (by omega) (by omega)
  rw [show fieldWord 1 = 8388608#32 by decide] at h
  rw [h]; norm_num

theorem rExp_small (x : ℝ) (h : x < (2 : ℝ) ^ (-126 : ℤ)) : rExp (x : EReal) = ((0 : ℝ) : EReal) := by
  unfold rExp
  rw [ofBits_tiny, if_pos (by exact_mod_cast h)]
  simp

theorem rExp_normal (x : ℝ) (n : ℤ) (hn1 : -126 ≤ n) (hl : (2 : ℝ) ^ n ≤ x) (hu : x < (2 : ℝ) ^ (n + 1)) :
    rExp (x : EReal) = (((n + 1 : ℤ) : ℝ) : EReal) := by
  have hp : (0 : ℝ) < x := lt_of_lt_of_le (by positivity) hl
  have hb : (2 : ℝ) ^ (-126 : ℤ) ≤ x := le_trans (zpow_le_zpow_right₀ (by norm_num) hn1) hl
  have h2 : (0 : ℝ) < Real.log 2 := Real.log_pos (by norm_num)
  have hfl : ⌊Real.log x / Real.log 2⌋ = n := by
    rw [Int.floor_eq_iff]
    constructor
    · rw [le_div_iff₀ h2, ← Real.log_zpow]
      exact Real.log_le_log (by positivity) hl
    · rw [div_lt_iff₀ h2]
      have : ((n : ℝ) + 1) * Real.log 2 = Real.log ((2 : ℝ) ^ (n + 1)) := by rw [Real.log_zpow]; push_cast; ring
      rw [this]
      exact Real.log_lt_log hp hu
  unfold rExp
  rw [ofBits_tiny, if_neg (by rw [not_lt]; exact_mod_cast hb), ofBits_two, ofBits_one, Ideal.log_coe, Ideal.log_coe, if_neg (by linarith),
    if_neg (by norm_num), Ideal.div_coe, ← EReal.coe_mul, mul_one_div, Ideal.liftRound_coe, hfl]
  · norm_cast
  · exact h2.ne'

/-- **The two scales are equal**, and the two inverses, for a ratio from 0 to 2^126. -/
theorem scale_eq (x : ℝ) (h0 : 0 ≤ x) (h1 : x < (2 : ℝ) ^ (126 : ℤ)) : kScale (x : EReal) = rScale x ∧ kInv (x : EReal) = rInv x := by
  unfold rScale rInv
  rw [ofBits_two]
  rcases lt_or_ge x ((2 : ℝ) ^ (-126 : ℤ)) with h | h
  · obtain ⟨ks, ki⟩ := kScale_small x h0 h
    rw [ks, ki, rExp_small x h]
    constructor
    · rw [Ideal.pow_coe_coe]; simp
    · rw [← EReal.coe_neg, Ideal.pow_coe_coe]; simp
  · have hp : (0 : ℝ) < x := lt_of_lt_of_le (by positivity) h
    obtain ⟨n, hl, hu⟩ := exists_mem_Ico_zpow hp (by norm_num : (1 : ℝ) < 2)
    have hn1 : -126 ≤ n := by
      have := (zpow_lt_zpow_iff_right₀ (by norm_num : (1 : ℝ) < 2)).mp (lt_of_le_of_lt h hu)
      omega
    have hn2 : n < 126 := (zpow_lt_zpow_iff_right₀ (by norm_num : (1 : ℝ) < 2)).mp (lt_of_le_of_lt hl h1)
    obtain ⟨ks, ki⟩ := kScale_normal x _ hn1 hn2 hl hu
    rw [ks, ki, rExp_normal x _ hn1 hl hu, Ideal.pow_coe_coe, ← EReal.coe_neg, Ideal.pow_coe_coe]
    constructor
    · exact congrArg _ (Real.rpow_intCast 2 _).symm
    · refine congrArg _ ?_
      rw [← Int.cast_neg]
      exact (Real.rpow_intCast 2 _).symm

end Cert.Scale

end
-- ==== Proof.Spec.lean ====
/-
  The five results as functions of the two arguments, element by element, for any reading S of a group's scale and I of
  its inverse from the ratio of the group's greatest magnitude to the greatest number of the format.

  A weight's group is a tile of 128 × 128, a token's group 128 values in a row. A code is the value times the inverse
  scale, clipped to the format's range (a change of format is the identity over the extended reals).
-/
module

public import proofs.«01_k».proof.Proof.Scale

@[expose] public section

noncomputable section

namespace Cert.Spec

open Idealize.ShloMosaic Cert.Scale

/-- The weight's and the tokens' shapes. -/
abbrev SW : Shape := ⟨2, ![16384, 2048]⟩
abbrev ST : Shape := ⟨2, ![12288, 2048]⟩

/-- The second argument's shape: a batch of sequences of tokens; and a token's row. -/
abbrev SB : Shape := ⟨3, ![2, 6144, 2048]⟩
def tok (b : Fin 2) (s : Fin 6144) : Fin 12288 := ⟨6144 * b.val + s.val, by omega⟩
/-- The second argument with a row per token. -/
def toTokens (D : SB.Idx → EReal) : ST.Idx → EReal := fun z =>
  D (ix3 (⟨(z 0).val / 6144, by have h : (z 0).val < 12288 := (z 0).isLt; omega⟩ : Fin 2) (⟨(z 0).val % 6144, Nat.mod_lt _ (by decide)⟩ : Fin 6144) (z 1))

/-- The absolute value. -/
def absE (x : EReal) : EReal := max x (-x)

/-- The greatest magnitude of a family. -/
def amax {ι : Type} [Fintype ι] (f : ι → EReal) : EReal :=
  Finset.fold max (Ideal.ofBits FTy.f32 4286578688#32) (fun k => max (f k) (-f k)) Finset.univ

/-- One over the greatest number of the weight's format, as a float, -/
def cW : EReal := Ideal.ofBits FTy.f32 991054117#32
/-- and of the tokens' format. -/
def cT : EReal := Ideal.ofBits FTy.f32 932333861#32
/-- A value clipped to the weight's format, -/
def clipW (x : EReal) : EReal := min (Ideal.ofBits FTy.f32 1138753536#32) (max (Ideal.ofBits FTy.f32 3286237184#32) x)
/-- and to the tokens'. -/
def clipT (x : EReal) : EReal := min (Ideal.ofBits FTy.f32 1197473792#32) (max (Ideal.ofBits FTy.f32 3344957440#32) x)

variable (S I : EReal → EReal) (W : SW.Idx → EReal) (T : ST.Idx → EReal)

/-- The ratio of the weight's tile (i, j). -/
def ratW (i : Fin 128) (j : Fin 16) : EReal :=
  amax (fun p : Fin 128 × Fin 128 => W (ix2 ⟨128 * i.val + p.1.val, by omega⟩ ⟨128 * j.val + p.2.val, by omega⟩)) * cW
/-- The ratio of group j of token t. -/
def ratT (t : Fin 12288) (j : Fin 16) : EReal :=
  amax (fun k : Fin 128 => T (ix2 t ⟨128 * j.val + k.val, by omega⟩)) * cT

/-- The weight's scale of a tile. -/
def ws (i : Fin 128) (j : Fin 16) : EReal := S (ratW W i j)
/-- The weight's code at an element. -/
def wc (r : Fin 16384) (c : Fin 2048) : EReal := clipW (W (ix2 r c) * I (ratW W ⟨r.val / 128, by omega⟩ ⟨c.val / 128, by omega⟩))
/-- The weight quantised and scaled back. -/
def wb (r : Fin 16384) (c : Fin 2048) : EReal := wc I W r c * ws S W ⟨r.val / 128, by omega⟩ ⟨c.val / 128, by omega⟩
/-- A token's scale of a group. -/
def ds (t : Fin 12288) (j : Fin 16) : EReal := S (ratT T t j)
/-- A token's code at an element. -/
def dc (t : Fin 12288) (c : Fin 2048) : EReal := clipT (T (ix2 t c) * I (ratT T t ⟨c.val / 128, by omega⟩))
/-- A token quantised and scaled back. -/
def db (t : Fin 12288) (c : Fin 2048) : EReal := dc I T t c * ds S T t ⟨c.val / 128, by omega⟩
/-- The input gradient: the product of the two. -/
def dx (t : Fin 12288) (r : Fin 16384) : EReal := ∑ k : Fin 2048, db S I T t k * wb S I W r k

/-! ## Within range -/

/-- The greatest finite bf16 number. -/
def big : ℝ := 255 * (2 : ℝ) ^ (120 : ℤ)

theorem ofBits_big : Ideal.ofBits FTy.bf16 0x7F7F#16 = (big : EReal) := by
  refine (ieee_pos 8 7 (0x7F7F#16) 254 127 (by decide) (by decide) (by decide) (by norm_num) (by norm_num)).trans ?_
  unfold big
  norm_num

theorem ofBits_negInf : Ideal.ofBits FTy.f32 4286578688#32 = ⊥ := by
  simp [Ideal.ofBits, Ideal.ieee]

/-- The greatest magnitude of a nonempty family within bf16's range is a real between 0 and the greatest bf16. -/
theorem amax_real {ι : Type} [Fintype ι] [Nonempty ι] (f : ι → EReal) (h : ∀ k, max (f k) (-f k) ≤ (big : EReal)) :
    ∃ a : ℝ, amax f = (a : EReal) ∧ 0 ≤ a ∧ a ≤ big := by
  have hle : amax f ≤ (big : EReal) := by
    unfold amax
    rw [Finset.fold_max_le]
    exact ⟨by rw [ofBits_negInf]; exact bot_le, fun k _ => h k⟩
  have hge : 0 ≤ amax f := by
    unfold amax
    rw [Finset.le_fold_max]
    obtain ⟨k⟩ := ‹Nonempty ι›
    refine .inr ⟨k, Finset.mem_univ k, ?_⟩
    rcases le_total 0 (f k) with hk | hk
    · exact le_max_of_le_left hk
    · exact le_max_of_le_right (by rwa [EReal.le_neg, neg_zero])
  have h1 : amax f ≠ ⊤ := fun e => by rw [e] at hle; exact absurd hle (not_le.mpr (EReal.coe_lt_top _))
  have h2 : amax f ≠ ⊥ := fun e => by rw [e] at hge; exact absurd hge (by simp)
  refine ⟨(amax f).toReal, (EReal.coe_toReal h1 h2).symm, ?_, ?_⟩
  · rw [← EReal.coe_toReal h1 h2] at hge; exact_mod_cast hge
  · rw [← EReal.coe_toReal h1 h2] at hle; exact_mod_cast hle

/-- A greatest magnitude is not negative: it is its own absolute value, also when scaled by a nonnegative factor. -/
theorem absE_amax {ι : Type} [Fintype ι] [Nonempty ι] (f : ι → EReal) (q : EReal) (hq : 0 ≤ q) : absE (amax f * q) = amax f * q := by
  have hge : 0 ≤ amax f := by
    unfold amax
    rw [Finset.le_fold_max]
    obtain ⟨k⟩ := ‹Nonempty ι›
    refine .inr ⟨k, Finset.mem_univ k, ?_⟩
    rcases le_total 0 (f k) with hk | hk
    · exact le_max_of_le_left hk
    · exact le_max_of_le_right (by rwa [EReal.le_neg, neg_zero])
  have h : 0 ≤ amax f * q := EReal.mul_nonneg hge hq
  unfold absE
  exact max_eq_left (le_trans (by rwa [EReal.neg_le, neg_zero]) h)

theorem cW_eq : cW = (((9586981 : ℝ) * (2 : ℝ) ^ (-32 : ℤ) : ℝ) : EReal) := by
  refine (ieee_pos 8 23 (991054117#32) 118 1198373 (by decide) (by decide) (by decide) (by norm_num) (by norm_num)).trans ?_
  norm_num

theorem cT_eq : cT = (((9586981 : ℝ) * (2 : ℝ) ^ (-39 : ℤ) : ℝ) : EReal) := by
  refine (ieee_pos 8 23 (932333861#32) 111 1198373 (by decide) (by decide) (by decide) (by norm_num) (by norm_num)).trans ?_
  norm_num

theorem cW_nonneg : 0 ≤ cW := by rw [cW_eq]; exact EReal.coe_nonneg.mpr (by positivity)
theorem cT_nonneg : 0 ≤ cT := by rw [cT_eq]; exact EReal.coe_nonneg.mpr (by positivity)

/-- Its ratio is within reach of the words. -/
theorem scale_at {ι : Type} [Fintype ι] [Nonempty ι] (f : ι → EReal) (h : ∀ k, max (f k) (-f k) ≤ (big : EReal)) (q : ℝ)
    (q0 : 0 ≤ q) (q1 : q ≤ 1 / 8) :
    kScale (amax f * (q : EReal)) = rScale (amax f * (q : EReal)) ∧ kInv (amax f * (q : EReal)) = rInv (amax f * (q : EReal)) := by
  obtain ⟨a, ha, a0, a1⟩ := amax_real f h
  rw [ha, ← EReal.coe_mul]
  refine scale_eq (a * q) (mul_nonneg a0 q0) (lt_of_le_of_lt (mul_le_mul a1 q1 q0 (le_trans a0 a1)) ?_)
  unfold big
  norm_num

variable (hW : ∀ y, max (W y) (-W y) ≤ (big : EReal)) (hT : ∀ y, max (T y) (-T y) ≤ (big : EReal))
include hW in
theorem scaleW (i : Fin 128) (j : Fin 16) : kScale (ratW W i j) = rScale (ratW W i j) ∧ kInv (ratW W i j) = rInv (ratW W i j) := by
  unfold ratW
  rw [cW_eq]
  exact scale_at _ (fun p => hW _) _ (by norm_num) (by norm_num)

include hT in
theorem scaleT (t : Fin 12288) (j : Fin 16) : kScale (ratT T t j) = rScale (ratT T t j) ∧ kInv (ratT T t j) = rInv (ratT T t j) := by
  unfold ratT
  rw [cT_eq]
  exact scale_at _ (fun p => hT _) _ (by norm_num) (by norm_num)

/-! ## The five results by the kernel's scales are those by the reference's -/

include hW in
theorem ws_eq : ws kScale W = ws rScale W := funext fun i => funext fun j => (scaleW W hW i j).1
include hW in
theorem wc_eq : wc kInv W = wc rInv W := funext fun r => funext fun c => by unfold wc; rw [(scaleW W hW _ _).2]
include hT in
theorem ds_eq : ds kScale T = ds rScale T := funext fun i => funext fun j => (scaleT T hT i j).1
include hT in
theorem dc_eq : dc kInv T = dc rInv T := funext fun r => funext fun c => by unfold dc; rw [(scaleT T hT _ _).2]
include hW hT in
theorem dx_eq : dx kScale kInv W T = dx rScale rInv W T := funext fun t => funext fun r => by
  unfold dx db wb
  rw [ws_eq W hW, wc_eq W hW, ds_eq T hT, dc_eq T hT]

end Cert.Spec

end
-- ==== Proof.BlockValue.lean ====
/-
  What one block of the kernel holds, element by element, over the extended reals: the codes, the scales and the values
  scaled back of a block of the weight and of a block of the tokens, and the product of two blocks.
-/
module

public import proofs.«01_k».proof.Proof.Dats
public import proofs.«01_k».proof.Proof.Spec

@[expose] public section

noncomputable section

namespace Cert.KernelIdeal.Val

open Idealize.ShloMosaic Cert.KernelIdeal.Gen Cert.Scale Cert.Spec

/-- The two spellings of an index by its coordinates are one. -/
theorem vx2 {a b : ℕ} (i : Fin a) (j : Fin b) : ValueIdx.ix2 i j = ix2 i j := rfl

/-- An index of a matrix by its coordinates. -/
theorem idx2 {a b : ℕ} (z : (⟨2, ![a, b]⟩ : Shape).Idx) : ∃ (i : Fin a) (j : Fin b), z = ix2 i j :=
  ⟨z 0, z 1, funext fun | ⟨0, _⟩ => rfl | ⟨1, _⟩ => rfl⟩

/-! ## One tile -/

/-- The scale's word of a weight tile. -/
theorem wWord_at (v : Vec Ideal S128x128 .bf16) :
    k0_pay102 v (ix2 0 0) = scaleWord (absE (amax (fun p : Fin 128 × Fin 128 => v (ix2 p.1 p.2)) * cW)) := by
  pointwise [k0_pay102]
  rfl

/-- The scale's word of one row of a token tile. -/
theorem dWord_at (v : Vec Ideal S256x128 .bf16) (r : Fin 256) :
    k0_pay2 v (ix2 r 0) = scaleWord (absE (amax (fun k : Fin 128 => v (ix2 r k)) * cT)) := by
  pointwise [k0_pay2, k0_pay1]
  rfl

theorem wScale_at (v : Vec Ideal S128x128 .bf16) :
    wScale v (ix2 0 0) = kScale (absE (amax (fun p : Fin 128 × Fin 128 => v (ix2 p.1 p.2)) * cW)) := by
  rw [kScale, ← wWord_at]; rfl

theorem dScale_at (v : Vec Ideal S256x128 .bf16) (r : Fin 256) :
    dScale v (ix2 r 0) = kScale (absE (amax (fun k : Fin 128 => v (ix2 r k)) * cT)) := by
  rw [kScale, ← dWord_at]; rfl

theorem wCodes_at (v : Vec Ideal S128x128 .bf16) (r c : Fin 128) :
    wCodes v (ix2 r c) = clipW (v (ix2 r c) * kInv (absE (amax (fun p : Fin 128 × Fin 128 => v (ix2 p.1 p.2)) * cW))) := by
  rw [kInv, ← wWord_at]
  pointwise [wCodes, k0_pay106, k0_pay104, k0_pay105]
  rfl

theorem dCodes_at (v : Vec Ideal S256x128 .bf16) (r : Fin 256) (c : Fin 128) :
    dCodes v (ix2 r c) = clipT (v (ix2 r c) * kInv (absE (amax (fun k : Fin 128 => v (ix2 r k)) * cT))) := by
  rw [kInv, ← dWord_at]
  pointwise [dCodes, k0_pay4, k0_pay1]
  rfl

theorem wBack_at (v : Vec Ideal S128x128 .bf16) (r c : Fin 128) :
    wBack v (ix2 r c) = wCodes v (ix2 r c) * wScale v (ix2 0 0) := by
  pointwise [wBack, k0_pay107, wCodes, wScale]

theorem dBack_at (v : Vec Ideal S256x128 .bf16) (r : Fin 256) (c : Fin 128) :
    dBack v (ix2 r c) = dCodes v (ix2 r c) * dScale v (ix2 r 0) := by
  pointwise [dBack, k0_pay5, dCodes, dScale]

theorem DX_at (a b : Vec Ideal S1024x2048 .bf16) (r s : Fin 1024) :
    DX a b (ix2 r s) = ∑ k : Fin 2048, a (ix2 r k) * b (ix2 s k) := by
  pointwise [DX, k0_pay811]

/-! ## The blocks of the weight and of the tokens -/

variable (W : SW.Idx → EReal) (T : ST.Idx → EReal) (b : ℕ)

/-- An element of a tile of weight block b, by its row and column in the weight. -/
theorem wTile_at (hb : b < 16) (r c : ℕ) (i : Fin 128) (j : Fin 16) (hi : i.val = 8 * b + r) (hj : j.val = c) (hr : r < 8) (p q : Fin 128) :
    wTile (F := Ideal) (wBlk (F := Ideal) W b) r c (ix2 p q) = W (ix2 ⟨128 * i.val + p.val, by omega⟩ ⟨128 * j.val + q.val, by omega⟩) := by
  refine congrArg W (funext fun a => Fin.ext ?_)
  match a with
  | ⟨0, _⟩ => show (1024 * b + (128 * r + p.val) % 1024) % 16384 = 128 * i.val + p.val; omega
  | ⟨1, _⟩ => show (128 * c + q.val) % 2048 = 128 * j.val + q.val; omega

/-- An element of a tile of tokens' block b, by its token and column. -/
theorem dTile_at (hb : b < 12) (r c : ℕ) (t : Fin 12288) (j : Fin 16) (p : Fin 256) (ht : t.val = 1024 * b + 256 * r + p.val) (hj : j.val = c) (hr : r < 4)
    (q : Fin 128) :
    dTile (F := Ideal) (tokBlk (F := Ideal) T b) r c (ix2 p q) = T (ix2 t ⟨128 * j.val + q.val, by omega⟩) := by
  refine congrArg T (funext fun a => Fin.ext ?_)
  match a with
  | ⟨0, _⟩ => show (1024 * b + (256 * r + p.val) % 1024) % 12288 = t.val; omega
  | ⟨1, _⟩ => show (128 * c + q.val) % 2048 = 128 * j.val + q.val; omega

/-- The ratio of a weight tile is that of the tile in the weight. -/
theorem ratW_at (hb : b < 16) (r c : ℕ) (i : Fin 128) (j : Fin 16) (hi : i.val = 8 * b + r) (hj : j.val = c) (hr : r < 8) :
    absE (amax (fun p : Fin 128 × Fin 128 => wTile (F := Ideal) (wBlk (F := Ideal) W b) r c (ix2 p.1 p.2)) * cW) = ratW W i j := by
  rw [absE_amax _ _ cW_nonneg]
  unfold ratW
  exact congrArg (fun f => amax f * cW) (funext fun p => wTile_at W b hb r c i j hi hj hr p.1 p.2)

/-- The ratio of a row of a tile of tokens is that of the token's group. -/
theorem ratT_at (hb : b < 12) (r c : ℕ) (t : Fin 12288) (j : Fin 16) (p : Fin 256) (ht : t.val = 1024 * b + 256 * r + p.val) (hj : j.val = c) (hr : r < 4) :
    absE (amax (fun k : Fin 128 => dTile (F := Ideal) (tokBlk (F := Ideal) T b) r c (ix2 p k)) * cT) = ratT T t j := by
  rw [absE_amax _ _ cT_nonneg]
  unfold ratT
  exact congrArg (fun f => amax f * cT) (funext fun k => dTile_at T b hb r c t j p ht hj hr k)

/-- The scales of weight block b, -/
theorem WS_at (hb : b < 16) (y : S8x16.Idx) (i : Fin 128) (j : Fin 16) (hi : i.val = 8 * b + (y 0).val) (hj : j.val = (y 1).val) :
    WS (F := Ideal) (wBlk (F := Ideal) W b) y = ws kScale W i j := by
  have h0 : (y 0).val < 8 := (y 0).isLt
  unfold WS ws
  rw [vx2, wScale_at, ratW_at W b hb _ _ i j hi hj h0]

/-- its codes, -/
theorem WC_at (hb : b < 16) (y : S1024x2048.Idx) (r : Fin 16384) (c : Fin 2048) (hr : r.val = 1024 * b + (y 0).val) (hc : c.val = (y 1).val) :
    WC (F := Ideal) (wBlk (F := Ideal) W b) y = wc kInv W r c := by
  have h0 : (y 0).val < 1024 := (y 0).isLt
  have h1 : (y 1).val < 2048 := (y 1).isLt
  unfold WC wc wIn
  rw [vx2, wCodes_at, ratW_at W b hb _ _ ⟨r.val / 128, by omega⟩ ⟨c.val / 128, by omega⟩ (by show r.val / 128 = _; omega) (by show c.val / 128 = _; omega) (by omega),
    wTile_at W b hb _ _ ⟨r.val / 128, by omega⟩ ⟨c.val / 128, by omega⟩ (by show r.val / 128 = _; omega) (by show c.val / 128 = _; omega) (by omega)]
  refine congrArg (fun i => clipW (W i * _)) (funext fun a => Fin.ext ?_)
  match a with
  | ⟨0, _⟩ => show 128 * (r.val / 128) + (y 0).val % 128 = r.val; omega
  | ⟨1, _⟩ => show 128 * (c.val / 128) + (y 1).val % 128 = c.val; omega

/-- and the block scaled back. -/
theorem WB_at (hb : b < 16) (y : S1024x2048.Idx) (r : Fin 16384) (c : Fin 2048) (hr : r.val = 1024 * b + (y 0).val) (hc : c.val = (y 1).val) :
    WB (F := Ideal) (wBlk (F := Ideal) W b) y = wb kScale kInv W r c := by
  have h0 : (y 0).val < 1024 := (y 0).isLt
  have h1 : (y 1).val < 2048 := (y 1).isLt
  have hC := WC_at W b hb y r c hr hc
  unfold WC wIn at hC
  unfold WB wb wIn ws
  rw [vx2] at hC ⊢; rw [wBack_at, hC, wScale_at, ratW_at W b hb _ _ ⟨r.val / 128, by omega⟩ ⟨c.val / 128, by omega⟩ (by show r.val / 128 = _; omega) (by show c.val / 128 = _; omega) (by omega)]

/-- The scales of tokens' block b, -/
theorem DS_at (hb : b < 12) (y : S1024x16.Idx) (t : Fin 12288) (j : Fin 16) (ht : t.val = 1024 * b + (y 0).val) (hj : j.val = (y 1).val) :
    DS (F := Ideal) (tokBlk (F := Ideal) T b) y = ds kScale T t j := by
  have h0 : (y 0).val < 1024 := (y 0).isLt
  unfold DS ds
  rw [vx2, dScale_at, ratT_at T b hb _ _ t j _ (by show t.val = 1024 * b + 256 * ((y 0).val / 256) + (y 0).val % 256; omega) hj (by omega)]

/-- its codes, -/
theorem DC_at (hb : b < 12) (y : S1024x2048.Idx) (t : Fin 12288) (c : Fin 2048) (ht : t.val = 1024 * b + (y 0).val) (hc : c.val = (y 1).val) :
    DC (F := Ideal) (tokBlk (F := Ideal) T b) y = dc kInv T t c := by
  have h0 : (y 0).val < 1024 := (y 0).isLt
  have h1 : (y 1).val < 2048 := (y 1).isLt
  unfold DC dc dIn
  rw [vx2, dCodes_at, ratT_at T b hb _ _ t ⟨c.val / 128, by omega⟩ _ (by show t.val = 1024 * b + 256 * ((y 0).val / 256) + (y 0).val % 256; omega) (by show c.val / 128 = _; omega) (by omega),
    dTile_at T b hb _ _ t ⟨c.val / 128, by omega⟩ _ (by show t.val = 1024 * b + 256 * ((y 0).val / 256) + (y 0).val % 256; omega) (by show c.val / 128 = _; omega) (by omega)]
  refine congrArg (fun i => clipT (T i * _)) (funext fun a => Fin.ext ?_)
  match a with
  | ⟨0, _⟩ => rfl
  | ⟨1, _⟩ => show 128 * (c.val / 128) + (y 1).val % 128 = c.val; omega

/-- and the block scaled back. -/
theorem DB_at (hb : b < 12) (y : S1024x2048.Idx) (t : Fin 12288) (c : Fin 2048) (ht : t.val = 1024 * b + (y 0).val) (hc : c.val = (y 1).val) :
    DB (F := Ideal) (tokBlk (F := Ideal) T b) y = db kScale kInv T t c := by
  have h0 : (y 0).val < 1024 := (y 0).isLt
  have h1 : (y 1).val < 2048 := (y 1).isLt
  have hC := DC_at T b hb y t c ht hc
  unfold DC dIn at hC
  unfold DB db dIn ds
  rw [vx2] at hC ⊢; rw [dBack_at, hC, dScale_at, ratT_at T b hb _ _ t ⟨c.val / 128, by omega⟩ _ (by show t.val = 1024 * b + 256 * ((y 0).val / 256) + (y 0).val % 256; omega) (by show c.val / 128 = _; omega) (by omega)]

/-- The product of tokens' block b and weight block a is the input gradient there. -/
theorem DX_block (a : ℕ) (ha : a < 16) (hb : b < 12) (y : S1024x1024.Idx) (t : Fin 12288) (r : Fin 16384) (ht : t.val = 1024 * b + (y 0).val)
    (hr : r.val = 1024 * a + (y 1).val) :
    DX (F := Ideal) (DB (F := Ideal) (tokBlk (F := Ideal) T b)) (WB (F := Ideal) (wBlk (F := Ideal) W a)) y = dx kScale kInv W T t r := by
  obtain ⟨i, j, rfl⟩ := idx2 y
  rw [DX_at]
  unfold dx
  exact Finset.sum_congr rfl fun k _ => by
    rw [DB_at T b hb _ t k ht rfl, WB_at W a ha _ r k hr rfl]

end Cert.KernelIdeal.Val

end
-- ==== Proof.KernelArrays.lean ====
/-
  What the kernel's five arrays hold when it has run, over the extended reals: the five results as functions of the two
  arguments, by the kernel's own reading of a scale and its inverse.
-/
module

public import proofs.«01_k».proof.Proof.KernelFrame
public import proofs.«01_k».proof.Proof.BlockValue
public import Idealize.ShloMosaic.Lib.Pipeline.Covers

@[expose] public section

set_option maxRecDepth 16384

noncomputable section

namespace Cert.KernelIdeal.Gen

open Idealize.ShloMosaic Idealize.ShloMosaic.TcCoe Idealize.ShloMosaic.Tactic
open Cert.KernelIdeal.Val Cert.Scale Cert.Spec

variable (m : (ℓ : Loc nD τ sig) → Buf (Elt Ideal) ℓ) (c : Dev nD)

/-! ## An array from its blocks

Each window's array, once every block of it is known: A is the array, G b the block at row b of blocks. -/

variable (dat : Pipeline.Dat τ (Elt Ideal) Unit ℕ (UR sig nD τ) ℕ cfg0 c)

theorem array3 (G : ℕ → S1024x2048.Idx → EReal) (A : Fin 16384 → Fin 2048 → EReal) (ha : ∀ t : Fin cfg0.N, dat.after 3 t = G (t.val % 16))
    (hG : ∀ b, b < 16 → ∀ (y : S1024x2048.Idx) (i : Fin 16384) (j : Fin 2048), i.val = 1024 * b + (y 0).val → j.val = (y 1).val → G b y = A i j) :
    dat.arrAt 3 cfg0.N = fun y : S16384x2048.Idx => A (y 0) (y 1) := by
  refine dat.arrAt_eq_of_covers 3 _ (by decide +kernel) fun t hf y => ?_
  have hN : t.val < 192 := lt_of_lt_of_eq t.isLt (show cfg0.N = 192 from N_0)
  have h0 : ((y 0 : Fin _) : ℕ) < 1024 := (y 0).isLt
  blk_simp
  rw [ha]
  refine hG _ (by omega) _ _ _ ?_ ?_
  · blk_simp [(idx0 t).2.2.2.1]; show t.val % 16 * 1024 + (y 0).val = _; omega
  · blk_simp [(idx0 t).2.2.2.1]

theorem array4 (G : ℕ → S8x16.Idx → EReal) (A : Fin 128 → Fin 16 → EReal) (ha : ∀ t : Fin cfg0.N, dat.after 4 t = G (t.val % 16))
    (hG : ∀ b, b < 16 → ∀ (y : S8x16.Idx) (i : Fin 128) (j : Fin 16), i.val = 8 * b + (y 0).val → j.val = (y 1).val → G b y = A i j) :
    dat.arrAt 4 cfg0.N = fun y : S128x16.Idx => A (y 0) (y 1) := by
  refine dat.arrAt_eq_of_covers 4 _ (by decide +kernel) fun t hf y => ?_
  have hN : t.val < 192 := lt_of_lt_of_eq t.isLt (show cfg0.N = 192 from N_0)
  have h0 : ((y 0 : Fin _) : ℕ) < 8 := (y 0).isLt
  blk_simp
  rw [ha]
  refine hG _ (by omega) _ _ _ ?_ ?_
  · blk_simp [(idx0 t).2.2.2.2.1]; show t.val % 16 * 8 + (y 0).val = _; omega
  · blk_simp [(idx0 t).2.2.2.2.1]

theorem array5 (G : ℕ → S1024x2048.Idx → EReal) (A : Fin 12288 → Fin 2048 → EReal) (ha : ∀ t : Fin cfg0.N, dat.after 5 t = G (t.val / 16))
    (hG : ∀ b, b < 12 → ∀ (y : S1024x2048.Idx) (i : Fin 12288) (j : Fin 2048), i.val = 1024 * b + (y 0).val → j.val = (y 1).val → G b y = A i j) :
    dat.arrAt 5 cfg0.N = fun y : S12288x2048.Idx => A (y 0) (y 1) := by
  refine dat.arrAt_eq_of_covers 5 _ (by decide +kernel) fun t hf y => ?_
  have hN : t.val < 192 := lt_of_lt_of_eq t.isLt (show cfg0.N = 192 from N_0)
  have h0 : ((y 0 : Fin _) : ℕ) < 1024 := (y 0).isLt
  blk_simp
  rw [ha]
  refine hG _ (by omega) _ _ _ ?_ ?_
  · blk_simp [(idx0 t).2.2.2.2.2.1]; show t.val / 16 * 1024 + (y 0).val = _; omega
  · blk_simp [(idx0 t).2.2.2.2.2.1]

theorem array6 (G : ℕ → S1024x16.Idx → EReal) (A : Fin 12288 → Fin 16 → EReal) (ha : ∀ t : Fin cfg0.N, dat.after 6 t = G (t.val / 16))
    (hG : ∀ b, b < 12 → ∀ (y : S1024x16.Idx) (i : Fin 12288) (j : Fin 16), i.val = 1024 * b + (y 0).val → j.val = (y 1).val → G b y = A i j) :
    dat.arrAt 6 cfg0.N = fun y : S12288x16.Idx => A (y 0) (y 1) := by
  refine dat.arrAt_eq_of_covers 6 _ (by decide +kernel) fun t hf y => ?_
  have hN : t.val < 192 := lt_of_lt_of_eq t.isLt (show cfg0.N = 192 from N_0)
  have h0 : ((y 0 : Fin _) : ℕ) < 1024 := (y 0).isLt
  blk_simp
  rw [ha]
  refine hG _ (by omega) _ _ _ ?_ ?_
  · blk_simp [(idx0 t).2.2.2.2.2.2]; show t.val / 16 * 1024 + (y 0).val = _; omega
  · blk_simp [(idx0 t).2.2.2.2.2.2]

theorem array2 (G : ℕ → ℕ → S1024x1024.Idx → EReal) (A : Fin 12288 → Fin 16384 → EReal)
    (ha : ∀ t : Fin cfg0.N, dat.after 2 t = G (t.val / 16) (t.val % 16))
    (hG : ∀ b, b < 12 → ∀ a, a < 16 → ∀ (y : S1024x1024.Idx) (i : Fin 12288) (j : Fin 16384), i.val = 1024 * b + (y 0).val → j.val = 1024 * a + (y 1).val →
      G b a y = A i j) :
    dat.arrAt 2 cfg0.N = fun y : S12288x16384.Idx => A (y 0) (y 1) := by
  refine dat.arrAt_eq_of_covers 2 _ (by decide +kernel) fun t hf y => ?_
  have hN : t.val < 192 := lt_of_lt_of_eq t.isLt (show cfg0.N = 192 from N_0)
  have h0 : ((y 0 : Fin _) : ℕ) < 1024 := (y 0).isLt
  have h1 : ((y 1 : Fin _) : ℕ) < 1024 := (y 1).isLt
  blk_simp
  rw [ha]
  refine hG _ (by omega) _ (by omega) _ _ _ ?_ ?_
  · blk_simp [(idx0 t).2.2.1]; show t.val / 16 * 1024 + (y 0).val = _; omega
  · blk_simp [(idx0 t).2.2.1]; show t.val % 16 * 1024 + (y 1).val = _; omega

/-! ## The arrays of the kernel -/

/-- The weight's codes, -/
theorem arr3 : (dats m 0 c).arrAt 3 cfg0.N = fun y : S16384x2048.Idx => wc kInv (Wgt m c) (y 0) (y 1) :=
  array3 c (dats m 0 c) (fun b => WC (wBlk (Wgt m c) b)) _ (after0_3 m c) fun b hb y i j hi hj => WC_at _ b hb y i j hi hj
/-- and its scales. -/
theorem arr4 : (dats m 0 c).arrAt 4 cfg0.N = fun y : S128x16.Idx => ws kScale (Wgt m c) (y 0) (y 1) :=
  array4 c (dats m 0 c) (fun b => WS (wBlk (Wgt m c) b)) _ (after0_4 m c) fun b hb y i j hi hj => WS_at _ b hb y i j hi hj
/-- The tokens' codes, -/
theorem arr5 : (dats m 0 c).arrAt 5 cfg0.N = fun y : S12288x2048.Idx => dc kInv (Tok m c) (y 0) (y 1) :=
  array5 c (dats m 0 c) (fun b => DC (tokBlk (Tok m c) b)) _ (after0_5 m c) fun b hb y i j hi hj => DC_at _ b hb y i j hi hj
/-- and their scales. -/
theorem arr6 : (dats m 0 c).arrAt 6 cfg0.N = fun y : S12288x16.Idx => ds kScale (Tok m c) (y 0) (y 1) :=
  array6 c (dats m 0 c) (fun b => DS (tokBlk (Tok m c) b)) _ (after0_6 m c) fun b hb y i j hi hj => DS_at _ b hb y i j hi hj
/-- The input gradient. -/
theorem arr2 : (dats m 0 c).arrAt 2 cfg0.N = fun y : S12288x16384.Idx => dx kScale kInv (Wgt m c) (Tok m c) (y 0) (y 1) :=
  array2 c (dats m 0 c) (fun b a => DX (DB (tokBlk (Tok m c) b)) (WB (wBlk (Wgt m c) a))) _ (after0_2 m c)
    fun b hb a ha y i j hi hj => DX_block _ _ b a ha hb y i j hi hj

end Cert.KernelIdeal.Gen

end
-- ==== Proof.Tokens.lean ====
/-
  The two layouts of the tokens: batch and position apart, or one row per token.
-/
module

public import proofs.«01_k».proof.Proof.Spec
public import Idealize.ShloMosaic.Lib.Pipeline.Value

@[expose] public section

noncomputable section

namespace Cert.Spec

open Idealize.ShloMosaic

/-- The second argument cast to rows is its tokens in rows. -/
theorem totoken (D : SB.Idx → EReal) (h : SB.ShapeCasts ST) : shapeCast ST D h = toTokens D := by
  funext z
  refine shapeCast_apply D h z _ ?_
  refine (Shape.rowMajor_val_three (d := ![2, 6144, 2048]) _).trans (Eq.trans ?_ (Shape.rowMajor_val_two (d := ![12288, 2048]) _).symm)
  show ((z 0).val / 6144 * 6144 + (z 0).val % 6144) * 2048 + (z 1).val = (z 0).val * 2048 + (z 1).val
  omega

/-- A matrix of rows per token, cast to batch and position, at an index. -/
theorem untoken {n : ℕ} (A : Fin 12288 → Fin n → EReal) (h : (⟨2, ![12288, n]⟩ : Shape).ShapeCasts ⟨3, ![2, 6144, n]⟩) :
    shapeCast (⟨3, ![2, 6144, n]⟩ : Shape) (fun y : (⟨2, ![12288, n]⟩ : Shape).Idx => A (y 0) (y 1)) h = fun y => A (tok (y 0) (y 1)) (y 2) := by
  funext y
  refine (shapeCast_apply _ h y (ix2 (tok (y 0) (y 1)) (y 2)) ?_).trans rfl
  refine (Shape.rowMajor_val_two (d := ![12288, n]) _).trans (Eq.trans ?_ (Shape.rowMajor_val_three (d := ![2, 6144, n]) _).symm)
  show (6144 * (y 0).val + (y 1).val) * n + (y 2).val = ((y 0).val * 6144 + (y 1).val) * n + (y 2).val
  rw [Nat.mul_comm 6144]

end Cert.Spec

end
-- ==== Proof.KernelResults.lean ====
/-
  The kernel's five results when it has run, over the extended reals, at an index of each.
-/
module

public import proofs.«01_k».proof.Proof.KernelArrays
public import proofs.«01_k».proof.Proof.Tokens

@[expose] public section

set_option maxRecDepth 16384

noncomputable section

namespace Cert.KernelIdeal.Gen

open Idealize.ShloMosaic Idealize.ShloMosaic.TcCoe Idealize.ShloMosaic.Tactic
open Cert.KernelIdeal.Val Cert.Scale Cert.Spec

variable (m : (ℓ : Loc nD τ sig) → Buf (Elt Ideal) ℓ) (c : Dev nD)

/-- The tokens as the launch finds them are the second argument's. -/
theorem Tok_eq : Tok m c = toTokens (m ((c.tc : Thread nD τ).loc main_arg1)) := by
  have h : V m c main_v0 = shapeCast S12288x2048 (m ((c.tc : Thread nD τ).loc main_arg1)) shapeCasts_S2x6144x2048_S12288x2048 := by
    show StableHlo.after hostOps0 _ (Proc.devRef .tc main_v0) = _
    after_results
    rfl
  exact h.trans (totoken _ _)

/-- The contents of a buffer that is no array of the kernel, after the host operations that follow it. -/
abbrev Tl (b : Ref sig .tc) : Buf (Elt Ideal) ((c.tc : Thread nD τ).loc b) := Pipeline.afterTail₀ cfgs (dats m) 0 (V0 m) [hostOps1] c b

theorem tail_v2 : Tl m c main_v2 = shapeCast S2x6144x16384 ((dats m 0 c).arrAt 2 cfg0.N) shapeCasts_S12288x16384_S2x6144x16384 := by
  have h := Pipeline.withArrays_arr spec0 launch0.win.arr_inj c (V0 m c) (fun w => (dats m 0 c).arrAt w cfg0.N) 2
  rw [← h]
  unfold Tl Pipeline.afterTail₀
  show StableHlo.after hostOps1 _ (Proc.devRef .tc main_v2) = _
  after_results
  rfl
theorem tail_v3 : Tl m c main_v3 = shapeCast S2x6144x2048 ((dats m 0 c).arrAt 5 cfg0.N) shapeCasts_S12288x2048_S2x6144x2048 := by
  have h := Pipeline.withArrays_arr spec0 launch0.win.arr_inj c (V0 m c) (fun w => (dats m 0 c).arrAt w cfg0.N) 5
  rw [← h]
  unfold Tl Pipeline.afterTail₀
  show StableHlo.after hostOps1 _ (Proc.devRef .tc main_v3) = _
  after_results
  rfl
theorem tail_v4 : Tl m c main_v4 = shapeCast S2x6144x16 ((dats m 0 c).arrAt 6 cfg0.N) shapeCasts_S12288x16_S2x6144x16 := by
  have h := Pipeline.withArrays_arr spec0 launch0.win.arr_inj c (V0 m c) (fun w => (dats m 0 c).arrAt w cfg0.N) 6
  rw [← h]
  unfold Tl Pipeline.afterTail₀
  show StableHlo.after hostOps1 _ (Proc.devRef .tc main_v4) = _
  after_results
  rfl

/-- The first argument, and the second's tokens in rows. -/
abbrev aW : SW.Idx → EReal := m ((c.tc : Thread nD τ).loc main_arg0)
abbrev aT : ST.Idx → EReal := toTokens (m ((c.tc : Thread nD τ).loc main_arg1))

theorem Wgt_eq : Wgt m c = aW m c := V_main_arg0 m c

/-- The five results. -/
theorem results (ρ : Dev nD → PrngReg) : θ_run defs (onTc (τ := τ) (main (F := Ideal))) ⟨m, fun _ => 0, ρ⟩ (fun r => ∀ c : Dev nD,
      r.2.mem ((c.tc : Thread nD τ).loc main_v2) = (fun y : S2x6144x16384.Idx => dx kScale kInv (aW m c) (aT m c) (tok (y 0) (y 1)) (y 2))
      ∧ r.2.mem ((c.tc : Thread nD τ).loc main_v1_1) = (fun y : S16384x2048.Idx => wc kInv (aW m c) (y 0) (y 1))
      ∧ r.2.mem ((c.tc : Thread nD τ).loc main_v1_2) = (fun y : S128x16.Idx => ws kScale (aW m c) (y 0) (y 1))
      ∧ r.2.mem ((c.tc : Thread nD τ).loc main_v3) = (fun y : S2x6144x2048.Idx => dc kInv (aT m c) (tok (y 0) (y 1)) (y 2))
      ∧ r.2.mem ((c.tc : Thread nD τ).loc main_v4) = (fun y : S2x6144x16.Idx => ds kScale (aT m c) (tok (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h, hu⟩ := h
  refine ⟨?_, ?_, ?_, ?_, ?_, hu c⟩
  · refine ((h c).2 main_v2 (Pipeline.mem_restRefs_of main_v2 (by decide) (by decide))).trans ((tail_v2 m c).trans ?_)
    rw [arr2, Wgt_eq, Tok_eq]; exact untoken _ _
  · refine ((h c).1 3).trans ((arr3 m c).trans ?_)
    rw [Wgt_eq]
  · refine ((h c).1 4).trans ((arr4 m c).trans ?_)
    rw [Wgt_eq]
  · refine ((h c).2 main_v3 (Pipeline.mem_restRefs_of main_v3 (by decide) (by decide))).trans ((tail_v3 m c).trans ?_)
    rw [arr5, Tok_eq]; exact untoken _ _
  · refine ((h c).2 main_v4 (Pipeline.mem_restRefs_of main_v4 (by decide) (by decide))).trans ((tail_v4 m c).trans ?_)
    rw [arr6, Tok_eq]; exact untoken _ _

end Cert.KernelIdeal.Gen

end
-- ==== Proof.RefTerms.lean ====
/-
  The reference's operations on whole arrays, and what they are at an index, over the extended reals: the ratio of a
  group's greatest magnitude to the greatest number of the format, the scale and its inverse, and the clipped codes.
-/
module

public import proofs.«01_k».proof.Proof.Gen.ReferenceIdeal.Skeleton
public import proofs.«01_k».proof.Proof.Tokens
public import Idealize.ShloMosaic.Lib.Pointwise

@[expose] public section

set_option maxRecDepth 16384

noncomputable section

namespace Cert.ReferenceIdeal.Val

open Idealize.ShloMosaic Cert.ReferenceIdeal Cert.ReferenceIdeal.Gen Cert.Scale Cert.Spec

/-! ## The operations -/

/-- The weight in tiles. -/
def wTiles (w : FVec Ideal S16384x2048 .bf16) : FVec Ideal S128x128x16x128 .f32 :=
  shapeCast S128x128x16x128 (extf .f32 w bitsLt_bf16_f32) shapeCasts_S16384x2048_S128x128x16x128
/-- The ratio of every tile. -/
def wRatio (w : FVec Ideal S16384x2048 .bf16) : FVec Ideal S128x16 .f32 :=
  mulf (Host.reduce FloatOps.maximumf (Host.absf (wTiles w)) (constant S_ .f32 0xFF800000#32) reducesTo_S128x128x16x128_S128x16_d1_3 h_S_)
    (broadcastInDim S128x16 ![] bcast_S_S128x16 (constant S_ .f32 0x3B124925#32))
/-- A shape's exponents from its ratios. -/
def expo {s : Shape} (h : S_.BroadcastsInDim s ![]) (q : FVec Ideal s .f32) : FVec Ideal s .f32 :=
  select (cmpf .olt q (broadcastInDim s ![] h (constant S_ .f32 0x00800000#32))) (broadcastInDim s ![] h (constant S_ .f32 0x00000000#32))
    (addf (Host.floor (Host.divf (Host.log q) (broadcastInDim s ![] h (Host.log (constant S_ .f32 0x40000000#32)))))
      (broadcastInDim s ![] h (constant S_ .f32 0x3F800000#32)))
/-- The scales, -/
def scl {s : Shape} (h : S_.BroadcastsInDim s ![]) (q : FVec Ideal s .f32) : FVec Ideal s .f32 :=
  Host.powf (broadcastInDim s ![] h (constant S_ .f32 0x40000000#32)) (expo h q)
/-- and their inverses. -/
def sclInv {s : Shape} (h : S_.BroadcastsInDim s ![]) (q : FVec Ideal s .f32) : FVec Ideal s .f32 :=
  Host.powf (broadcastInDim s ![] h (constant S_ .f32 0x40000000#32)) (Host.negf (expo h q))
/-- The weight's codes in tiles. -/
def wClip (w : FVec Ideal S16384x2048 .bf16) : FVec Ideal S128x128x16x128 .f32 :=
  minimumf (broadcastInDim S128x128x16x128 ![] bcast_S_S128x128x16x128 (id (constant S_ .f32 0x43E00000#32)))
    (maximumf (broadcastInDim S128x128x16x128 ![] bcast_S_S128x128x16x128 (id (constant S_ .f32 0xC3E00000#32)))
      (mulf (wTiles w) (broadcastInDim S128x128x16x128 ![0, 1, 2, 3] bcast_S128x1x16x1_S128x128x16x128_0_1_2_3
        (broadcastInDim S128x1x16x1 ![0, 2] bcast_S128x16_S128x1x16x1_0_2 (sclInv bcast_S_S128x16 (wRatio w))))))
/-- The tokens in groups. -/
def dGroups (d : FVec Ideal S2x6144x2048 .bf16) : FVec Ideal S2x6144x16x128 .f32 :=
  shapeCast S2x6144x16x128 (extf .f32 d bitsLt_bf16_f32) shapeCasts_S2x6144x2048_S2x6144x16x128
/-- The ratio of every group. -/
def dRatio (d : FVec Ideal S2x6144x2048 .bf16) : FVec Ideal S2x6144x16 .f32 :=
  mulf (Host.reduce FloatOps.maximumf (Host.absf (dGroups d)) (constant S_ .f32 0xFF800000#32) reducesTo_S2x6144x16x128_S2x6144x16_d3 h_S_)
    (broadcastInDim S2x6144x16 ![] bcast_S_S2x6144x16 (constant S_ .f32 0x37924925#32))
/-- The tokens' codes in groups. -/
def dClip (d : FVec Ideal S2x6144x2048 .bf16) : FVec Ideal S2x6144x16x128 .f32 :=
  minimumf (broadcastInDim S2x6144x16x128 ![] bcast_S_S2x6144x16x128 (id (constant S_ .f32 0x47600000#32)))
    (maximumf (broadcastInDim S2x6144x16x128 ![] bcast_S_S2x6144x16x128 (id (constant S_ .f32 0xC7600000#32)))
      (mulf (dGroups d) (broadcastInDim S2x6144x16x128 ![0, 1, 2, 3] bcast_S2x6144x16x1_S2x6144x16x128_0_1_2_3
        (broadcastInDim S2x6144x16x1 ![0, 1, 2] bcast_S2x6144x16_S2x6144x16x1_0_1_2 (sclInv bcast_S_S2x6144x16 (dRatio d))))))

/-! ## Whole-array steps at an index -/

/-- A product with one number. -/
theorem scaled_at {s : Shape} (h : S_.BroadcastsInDim s ![]) (x : FVec Ideal s .f32) (b : BitVec 32) (i : s.Idx) :
    mulf x (broadcastInDim s ![] h (constant S_ .f32 b)) i = x i * Ideal.ofBits FTy.f32 b := rfl

/-- The elements that a maximum over a tile's rows and columns takes in are that tile's. -/
theorem fiber_tile (h : S128x128x16x128.ReducesTo [1, 3] S128x16) (i : Fin 128) (j : Fin 16) (z : S128x128x16x128.Idx) :
    h.drop z = ix2 i j ↔ ∃ k : Fin 128 × Fin 128, ix4 i k.1 j k.2 = z := by
  constructor
  · intro e
    refine ⟨(z 1, z 3), ?_⟩
    funext a; apply Fin.ext
    match a with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext b
    apply Fin.ext
    match b with
    | ⟨0, _⟩ => rfl
    | ⟨1, _⟩ => rfl

/-- The greatest magnitude of every tile, -/
theorem reduce_tiles (x : FVec Ideal S128x128x16x128 .f32) (i : Fin 128) (j : Fin 16) :
    Host.reduce FloatOps.maximumf (Host.absf x) (constant S_ .f32 0xFF800000#32) reducesTo_S128x128x16x128_S128x16_d1_3 h_S_ (ix2 i j)
      = amax (fun p : Fin 128 × Fin 128 => x (ix4 i p.1 j p.2)) := by
  rw [Host.reduce_eq_fold]
  refine (Finset.fold_filter_eq_fold_of_fiber _ _ (fun k : Fin 128 × Fin 128 => ix4 i k.1 j k.2) (fun _ _ e => Prod.ext (congrFun e 1) (congrFun e 3))
    (fiber_tile _ i j) _ _).trans ?_
  unfold amax
  exact Finset.fold_congr fun k _ => rfl
/-- and of every group. -/
theorem reduce_groups (x : FVec Ideal S2x6144x16x128 .f32) (b : Fin 2) (s : Fin 6144) (j : Fin 16) :
    Host.reduce FloatOps.maximumf (Host.absf x) (constant S_ .f32 0xFF800000#32) reducesTo_S2x6144x16x128_S2x6144x16_d3 h_S_ (ix3 b s j)
      = amax (fun k : Fin 128 => x (ix4 b s j k)) := by
  rw [Host.reduce_eq_fold, Shape.ReducesTo.fold_fiber_r4_a3]
  unfold amax
  exact Finset.fold_congr fun k _ => rfl

/-- A tile's codes, -/
theorem clip_tiles (x : FVec Ideal S128x128x16x128 .f32) (v : FVec Ideal S128x16 .f32) (i p : Fin 128) (j : Fin 16) (q : Fin 128) :
    minimumf (broadcastInDim S128x128x16x128 ![] bcast_S_S128x128x16x128 (id (constant S_ .f32 0x43E00000#32)))
      (maximumf (broadcastInDim S128x128x16x128 ![] bcast_S_S128x128x16x128 (id (constant S_ .f32 0xC3E00000#32)))
        (mulf x (broadcastInDim S128x128x16x128 ![0, 1, 2, 3] bcast_S128x1x16x1_S128x128x16x128_0_1_2_3
          (broadcastInDim S128x1x16x1 ![0, 2] bcast_S128x16_S128x1x16x1_0_2 v)))) (ix4 i p j q)
      = clipW (x (ix4 i p j q) * v (ix2 i j)) := by
  pointwise []
  rfl
/-- and a group's. -/
theorem clip_groups (x : FVec Ideal S2x6144x16x128 .f32) (v : FVec Ideal S2x6144x16 .f32) (b : Fin 2) (s : Fin 6144) (j : Fin 16) (q : Fin 128) :
    minimumf (broadcastInDim S2x6144x16x128 ![] bcast_S_S2x6144x16x128 (id (constant S_ .f32 0x47600000#32)))
      (maximumf (broadcastInDim S2x6144x16x128 ![] bcast_S_S2x6144x16x128 (id (constant S_ .f32 0xC7600000#32)))
        (mulf x (broadcastInDim S2x6144x16x128 ![0, 1, 2, 3] bcast_S2x6144x16x1_S2x6144x16x128_0_1_2_3
          (broadcastInDim S2x6144x16x1 ![0, 1, 2] bcast_S2x6144x16_S2x6144x16x1_0_1_2 v)))) (ix4 b s j q)
      = clipT (x (ix4 b s j q) * v (ix3 b s j)) := by
  pointwise []
  rfl

/-! ## The scales at an index -/

theorem expo_at {s : Shape} (h : S_.BroadcastsInDim s ![]) (q : FVec Ideal s .f32) (i : s.Idx) : expo h q i = rExp (q i) := by
  unfold rExp
  pointwise [expo]
theorem scl_at {s : Shape} (h : S_.BroadcastsInDim s ![]) (q : FVec Ideal s .f32) (i : s.Idx) : scl h q i = rScale (q i) := by
  unfold rScale
  rw [← expo_at h q i]
  rfl
theorem sclInv_at {s : Shape} (h : S_.BroadcastsInDim s ![]) (q : FVec Ideal s .f32) (i : s.Idx) : sclInv h q i = rInv (q i) := by
  unfold rInv
  rw [← expo_at h q i]
  rfl

/-! ## The weight -/

theorem wTiles_at (w : FVec Ideal S16384x2048 .bf16) (i p : Fin 128) (j : Fin 16) (q : Fin 128) :
    wTiles w (ix4 i p j q) = w (ix2 ⟨128 * i.val + p.val, by omega⟩ ⟨128 * j.val + q.val, by omega⟩) := by
  refine (shapeCast_apply _ _ _ (ix2 (⟨128 * i.val + p.val, by omega⟩ : Fin 16384) (⟨128 * j.val + q.val, by omega⟩ : Fin 2048)) ?_).trans rfl
  refine (Shape.rowMajor_val_two (d := ![16384, 2048]) _).trans (Eq.trans ?_ (Shape.rowMajor_val_four (d := ![128, 128, 16, 128]) _).symm)
  show (128 * i.val + p.val) * 2048 + (128 * j.val + q.val) = ((i.val * 128 + p.val) * 16 + j.val) * 128 + q.val
  omega

theorem wRatio_at (w : FVec Ideal S16384x2048 .bf16) (i : Fin 128) (j : Fin 16) : wRatio w (ix2 i j) = ratW w i j := by
  unfold wRatio ratW cW
  rw [scaled_at, reduce_tiles]
  exact congrArg (fun f => amax f * _) (funext fun p => wTiles_at w i p.1 j p.2)

theorem wClip_at (w : FVec Ideal S16384x2048 .bf16) (i p : Fin 128) (j : Fin 16) (q : Fin 128) :
    wClip w (ix4 i p j q) = wc rInv w ⟨128 * i.val + p.val, by omega⟩ ⟨128 * j.val + q.val, by omega⟩ := by
  unfold wClip wc
  rw [clip_tiles, wTiles_at, sclInv_at, wRatio_at]
  have e0 : i = ⟨(128 * i.val + p.val) / 128, by omega⟩ := Fin.ext (by show i.val = (128 * i.val + p.val) / 128; omega)
  have e1 : j = ⟨(128 * j.val + q.val) / 128, by omega⟩ := Fin.ext (by show j.val = (128 * j.val + q.val) / 128; omega)
  exact congrArg (fun x => clipW (_ * rInv x)) (congrArg₂ (ratW w) e0 e1)

/-! ## The tokens -/

theorem dGroups_at (d : FVec Ideal S2x6144x2048 .bf16) (b : Fin 2) (s : Fin 6144) (j : Fin 16) (q : Fin 128) :
    dGroups d (ix4 b s j q) = toTokens d (ix2 (tok b s) ⟨128 * j.val + q.val, by omega⟩) := by
  refine (shapeCast_apply _ _ _ (ix3 b s (⟨128 * j.val + q.val, by omega⟩ : Fin 2048)) ?_).trans ?_
  · refine (Shape.rowMajor_val_three (d := ![2, 6144, 2048]) _).trans (Eq.trans ?_ (Shape.rowMajor_val_four (d := ![2, 6144, 16, 128]) _).symm)
    show (b.val * 6144 + s.val) * 2048 + (128 * j.val + q.val) = ((b.val * 6144 + s.val) * 16 + j.val) * 128 + q.val
    omega
  · refine congrArg d (funext fun a => Fin.ext ?_)
    match a with
    | ⟨0, _⟩ => show b.val = (6144 * b.val + s.val) / 6144; omega
    | ⟨1, _⟩ => show s.val = (6144 * b.val + s.val) % 6144; omega
    | ⟨2, _⟩ => rfl

theorem dRatio_at (d : FVec Ideal S2x6144x2048 .bf16) (b : Fin 2) (s : Fin 6144) (j : Fin 16) : dRatio d (ix3 b s j) = ratT (toTokens d) (tok b s) j := by
  unfold dRatio ratT cT
  rw [scaled_at, reduce_groups]
  exact congrArg (fun f => amax f * _) (funext fun k => dGroups_at d b s j k)

theorem dClip_at (d : FVec Ideal S2x6144x2048 .bf16) (b : Fin 2) (s : Fin 6144) (j : Fin 16) (q : Fin 128) :
    dClip d (ix4 b s j q) = dc rInv (toTokens d) (tok b s) ⟨128 * j.val + q.val, by omega⟩ := by
  unfold dClip dc
  rw [clip_groups, dGroups_at, sclInv_at, dRatio_at]
  have e1 : j = ⟨(128 * j.val + q.val) / 128, by omega⟩ := Fin.ext (by show j.val = (128 * j.val + q.val) / 128; omega)
  exact congrArg (fun x => clipT (_ * rInv x)) (congrArg (ratT (toTokens d) (tok b s)) e1)

end Cert.ReferenceIdeal.Val

end
-- ==== Proof.RefHost.lean ====
/-
  What the reference's host operations leave in the buffers that the results are read from, as the operations of RefTerms.lean.
-/
module

public import proofs.«01_k».proof.Proof.Gen.ReferenceIdeal.Frame
public import proofs.«01_k».proof.Proof.RefTerms
public import Idealize.ShloMosaic.Lib.StableHlo.RunRead

@[expose] public section

set_option maxRecDepth 16384

noncomputable section

namespace Cert.ReferenceIdeal.Gen

open Idealize.ShloMosaic Idealize.ShloMosaic.TcCoe Idealize.ShloMosaic.Tactic
open Cert.ReferenceIdeal.Val

variable (m : (ℓ : Loc nD τ sig) → Buf (Elt Ideal) ℓ) (c : Dev nD)

/-- The arguments. -/
abbrev aW : FVec Ideal S16384x2048 .bf16 := m ((c.tc : Thread nD τ).loc main_arg0)
abbrev aD : FVec Ideal S2x6144x2048 .bf16 := m ((c.tc : Thread nD τ).loc main_arg1)

/-- Before the launch: the weight's scales. -/
theorem V_v18 : V m c main_v18 = scl bcast_S_S128x16 (wRatio (aW m c)) := by
  unfold_abbrev_sides
  simp only [List.flatten_cons, List.flatten_nil, List.append_nil, List.cons_append, List.nil_append]
  after_reads_simp
  unfold scl expo wRatio wTiles
  simp -implicitDefEqProofs only [StableHlo.TRef.toBuf, StableHlo.TRef.ofBuf, cast_cast, cast_eq]
  rfl

/-- Before the launch: the weight's clipped codes. -/
theorem V_v26 : V m c main_v26 = shapeCast S16384x2048 (wClip (aW m c)) shapeCasts_S128x128x16x128_S16384x2048 := by
  unfold_abbrev_sides
  simp only [List.flatten_cons, List.flatten_nil, List.append_nil, List.cons_append, List.nil_append]
  after_reads_simp
  unfold wClip sclInv expo wRatio wTiles
  simp -implicitDefEqProofs only [StableHlo.TRef.toBuf, StableHlo.TRef.ofBuf, cast_cast, cast_eq]
  rfl

/-- Before the launch: the tokens' scales. -/
theorem V_v45 : V m c main_v45 = scl bcast_S_S2x6144x16 (dRatio (aD m c)) := by
  unfold_abbrev_sides
  simp only [List.flatten_cons, List.flatten_nil, List.append_nil, List.cons_append, List.nil_append]
  after_reads_simp
  unfold scl expo dRatio dGroups
  simp -implicitDefEqProofs only [StableHlo.TRef.toBuf, StableHlo.TRef.ofBuf, cast_cast, cast_eq]
  rfl

/-- Before the launch: the tokens' clipped codes. -/
theorem V_v53 : V m c main_v53 = shapeCast S2x6144x2048 (dClip (aD m c)) shapeCasts_S2x6144x16x128_S2x6144x2048 := by
  unfold_abbrev_sides
  simp only [List.flatten_cons, List.flatten_nil, List.append_nil, List.cons_append, List.nil_append]
  after_reads_simp
  unfold dClip sclInv expo dRatio dGroups
  simp -implicitDefEqProofs only [StableHlo.TRef.toBuf, StableHlo.TRef.ofBuf, cast_cast, cast_eq]
  rfl

end Cert.ReferenceIdeal.Gen

end
-- ==== Proof.RefArrays.lean ====
/-
  What the reference's four arrays hold when its launch has run, over the extended reals, where a cast keeps its number:
  the clipped codes that it was launched on, twice.
-/
module

public import proofs.«01_k».proof.Proof.RefHost
public import Idealize.ShloMosaic.Lib.Pipeline.ValueKit

@[expose] public section

set_option maxRecDepth 16384

noncomputable section

namespace Cert.ReferenceIdeal.Gen

open Idealize.ShloMosaic Idealize.ShloMosaic.TcCoe Idealize.ShloMosaic.Tactic
open Cert.ReferenceIdeal.Val

/-! ## The blocks: each output holds its input -/

theorem out2_eq (x0 : Vec Ideal S16384x2048 .f32) (x1 : Vec Ideal S2x6144x2048 .f32) : out0_2 (F := Ideal) x0 x1 = (x0 : S16384x2048.Idx → EReal) := by
  unfold out0_2
  rw [View.canon_cons_unit_lit _ _ _ (by decide), View.ld_unit_lit _ _ (by decide)]
  unfold k0_pay1
  rw [shapeCast_self]
  rfl
theorem out3_eq (x0 : Vec Ideal S16384x2048 .f32) (x1 : Vec Ideal S2x6144x2048 .f32) : out0_3 (F := Ideal) x0 x1 = (x1 : S2x6144x2048.Idx → EReal) := by
  unfold out0_3
  rw [View.canon_cons_unit_lit _ _ _ (by decide), View.ld_unit_lit _ _ (by decide)]
  unfold k0_pay2
  rw [shapeCast_self]
  rfl
theorem out4_eq (x0 : Vec Ideal S16384x2048 .f32) (x1 : Vec Ideal S2x6144x2048 .f32) : out0_4 (F := Ideal) x0 x1 = (x0 : S16384x2048.Idx → EReal) := by
  unfold out0_4
  rw [View.canon_cons_unit_lit _ _ _ (by decide), View.ld_unit_lit _ _ (by decide)]
  unfold k0_pay3 k0_pay1
  rw [shapeCast_self]
  rfl
theorem out5_eq (x0 : Vec Ideal S16384x2048 .f32) (x1 : Vec Ideal S2x6144x2048 .f32) : out0_5 (F := Ideal) x0 x1 = (x1 : S2x6144x2048.Idx → EReal) := by
  unfold out0_5
  rw [View.canon_cons_unit_lit _ _ _ (by decide), View.ld_unit_lit _ _ (by decide)]
  unfold k0_pay4 k0_pay2
  rw [shapeCast_self]
  rfl

/-! ## The arrays of any proof data whose last block is known -/

variable (c : Dev nD) (dat : Pipeline.Dat τ (Elt Ideal) Unit ℕ (UR sig nD τ) ℕ cfg0 c)

theorem array2 (A : S16384x2048.Idx → EReal) (ha : dat.after 2 t0_0 = A) : dat.arrAt 2 cfg0.N = A := by
  funext i
  refine (dat.arrAt_emb_eq_after_last 2 t0_0 (by decide +kernel) i).trans ?_
  blk_simp
  rw [ha]
theorem array3 (A : S2x6144x2048.Idx → EReal) (ha : dat.after 3 t0_0 = A) : dat.arrAt 3 cfg0.N = A := by
  funext i
  refine (dat.arrAt_emb_eq_after_last 3 t0_0 (by decide +kernel) i).trans ?_
  blk_simp
  rw [ha]
theorem array4 (A : S16384x2048.Idx → EReal) (ha : dat.after 4 t0_0 = A) : dat.arrAt 4 cfg0.N = A := by
  funext i
  refine (dat.arrAt_emb_eq_after_last 4 t0_0 (by decide +kernel) i).trans ?_
  blk_simp
  rw [ha]
theorem array5 (A : S2x6144x2048.Idx → EReal) (ha : dat.after 5 t0_0 = A) : dat.arrAt 5 cfg0.N = A := by
  funext i
  refine (dat.arrAt_emb_eq_after_last 5 t0_0 (by decide +kernel) i).trans ?_
  blk_simp
  rw [ha]

/-! ## The arrays of the reference -/

variable (m : (ℓ : Loc nD τ sig) → Buf (Elt Ideal) ℓ)

/-- The one block of each input starts the array, -/
theorem index0 : ∀ a : Fin 2, win0_0.index t0_0 a = 0 := by decide +kernel
theorem index1 : ∀ a : Fin 3, win0_1.index t0_0 a = 0 := by decide +kernel
/-- and is all of it. -/
theorem iblk0_eq : iblk m c 0 t0_0 = V m c main_v26 := by
  funext j
  blk_simp [iblk]
  refine congrArg (V m c main_v26) (funext fun a => Fin.ext ?_)
  match a with
  | ⟨0, _⟩ => blk_simp [index0]
  | ⟨1, _⟩ => blk_simp [index0]
theorem iblk1_eq : iblk m c 1 t0_0 = V m c main_v53 := by
  funext j
  blk_simp [iblk]
  refine congrArg (V m c main_v53) (funext fun a => Fin.ext ?_)
  match a with
  | ⟨0, _⟩ => blk_simp [index1]
  | ⟨1, _⟩ => blk_simp [index1]
  | ⟨2, _⟩ => blk_simp [index1]

theorem arr2 : (dats m 0 c).arrAt 2 cfg0.N = (V m c main_v26 : S16384x2048.Idx → EReal) :=
  array2 c (dats m 0 c) _ ((after0_2 m c t0_0).trans ((out2_eq _ _).trans (iblk0_eq c m)))
theorem arr3 : (dats m 0 c).arrAt 3 cfg0.N = (V m c main_v53 : S2x6144x2048.Idx → EReal) :=
  array3 c (dats m 0 c) _ ((after0_3 m c t0_0).trans ((out3_eq _ _).trans (iblk1_eq c m)))
theorem arr4 : (dats m 0 c).arrAt 4 cfg0.N = (V m c main_v26 : S16384x2048.Idx → EReal) :=
  array4 c (dats m 0 c) _ ((after0_4 m c t0_0).trans ((out4_eq _ _).trans (iblk0_eq c m)))
theorem arr5 : (dats m 0 c).arrAt 5 cfg0.N = (V m c main_v53 : S2x6144x2048.Idx → EReal) :=
  array5 c (dats m 0 c) _ ((after0_5 m c t0_0).trans ((out5_eq _ _).trans (iblk1_eq c m)))

end Cert.ReferenceIdeal.Gen

end
-- ==== Proof.RefBack.lean ====
/-
  The reference's codes in the arguments' layouts, the arguments scaled back from them, and their product, at an index.
-/
module

public import proofs.«01_k».proof.Proof.RefTerms

@[expose] public section

set_option maxRecDepth 16384

noncomputable section

namespace Cert.ReferenceIdeal.Val

open Idealize.ShloMosaic Cert.ReferenceIdeal Cert.ReferenceIdeal.Gen Cert.Scale Cert.Spec

/-! ## The operations -/

/-- A weight's codes, scaled back tile by tile. -/
def wBack (x : FVec Ideal S16384x2048 .bf16) (v : FVec Ideal S128x16 .f32) : FVec Ideal S16384x2048 .bf16 :=
  shapeCast S16384x2048 (mulf (shapeCast S128x128x16x128 x shapeCasts_S16384x2048_S128x128x16x128)
    (broadcastInDim S128x128x16x128 ![0, 1, 2, 3] bcast_S128x1x16x1_S128x128x16x128_0_1_2_3
      (broadcastInDim S128x1x16x1 ![0, 2] bcast_S128x16_S128x1x16x1_0_2 (truncf .bf16 v bitsLt_bf16_f32))))
    shapeCasts_S128x128x16x128_S16384x2048
/-- The tokens' codes, scaled back group by group. -/
def dBack (x : FVec Ideal S2x6144x2048 .bf16) (v : FVec Ideal S2x6144x16 .f32) : FVec Ideal S2x6144x2048 .bf16 :=
  shapeCast S2x6144x2048 (mulf (shapeCast S2x6144x16x128 x shapeCasts_S2x6144x2048_S2x6144x16x128)
    (broadcastInDim S2x6144x16x128 ![0, 1, 2, 3] bcast_S2x6144x16x1_S2x6144x16x128_0_1_2_3
      (broadcastInDim S2x6144x16x1 ![0, 1, 2] bcast_S2x6144x16_S2x6144x16x1_0_1_2 (truncf .bf16 v bitsLt_bf16_f32))))
    shapeCasts_S2x6144x16x128_S2x6144x2048
/-- The product of tokens and weight over the inner axis. -/
def prod (l : FVec Ideal S2x6144x2048 .bf16) (r : FVec Ideal S16384x2048 .bf16) : FVec Ideal S2x6144x16384 .bf16 :=
  truncf .bf16 (Host.dotGeneral dot_S2x6144x2048_S16384x2048_S2x6144x16384_2_1_01_0_n_n none l r : FVec Ideal S2x6144x16384 .f32) bitsLt_bf16_f32

/-! ## Tiles and rows -/

/-- An array of tiles in rows: the element of a row and a column is its tile's. -/
theorem rows_at {α : Type} (x : S128x128x16x128.Idx → α) (h : S128x128x16x128.ShapeCasts S16384x2048) (r : Fin 16384) (k : Fin 2048) :
    shapeCast S16384x2048 x h (ix2 r k)
      = x (ix4 ⟨r.val / 128, by omega⟩ ⟨r.val % 128, by omega⟩ ⟨k.val / 128, by omega⟩ ⟨k.val % 128, by omega⟩) := by
  refine shapeCast_apply _ _ _ _ ?_
  refine (Shape.rowMajor_val_four (d := ![128, 128, 16, 128]) _).trans (Eq.trans ?_ (Shape.rowMajor_val_two (d := ![16384, 2048]) _).symm)
  show ((r.val / 128 * 128 + r.val % 128) * 16 + k.val / 128) * 128 + k.val % 128 = r.val * 2048 + k.val
  omega
/-- An array in rows, in tiles. -/
theorem tiles_at {α : Type} (x : S16384x2048.Idx → α) (h : S16384x2048.ShapeCasts S128x128x16x128) (i p : Fin 128) (j : Fin 16) (q : Fin 128) :
    shapeCast S128x128x16x128 x h (ix4 i p j q) = x (ix2 ⟨128 * i.val + p.val, by omega⟩ ⟨128 * j.val + q.val, by omega⟩) := by
  refine shapeCast_apply _ _ _ _ ?_
  refine (Shape.rowMajor_val_two (d := ![16384, 2048]) _).trans (Eq.trans ?_ (Shape.rowMajor_val_four (d := ![128, 128, 16, 128]) _).symm)
  show (128 * i.val + p.val) * 2048 + (128 * j.val + q.val) = ((i.val * 128 + p.val) * 16 + j.val) * 128 + q.val
  omega
/-- An array of groups, without them. -/
theorem flat_at {α : Type} (x : S2x6144x16x128.Idx → α) (h : S2x6144x16x128.ShapeCasts S2x6144x2048) (b : Fin 2) (s : Fin 6144) (k : Fin 2048) :
    shapeCast S2x6144x2048 x h (ix3 b s k) = x (ix4 b s ⟨k.val / 128, by omega⟩ ⟨k.val % 128, by omega⟩) := by
  refine shapeCast_apply _ _ _ _ ?_
  refine (Shape.rowMajor_val_four (d := ![2, 6144, 16, 128]) _).trans (Eq.trans ?_ (Shape.rowMajor_val_three (d := ![2, 6144, 2048]) _).symm)
  show ((b.val * 6144 + s.val) * 16 + k.val / 128) * 128 + k.val % 128 = (b.val * 6144 + s.val) * 2048 + k.val
  omega
/-- An array, in groups. -/
theorem groups_at {α : Type} (x : S2x6144x2048.Idx → α) (h : S2x6144x2048.ShapeCasts S2x6144x16x128) (b : Fin 2) (s : Fin 6144) (j : Fin 16) (q : Fin 128) :
    shapeCast S2x6144x16x128 x h (ix4 b s j q) = x (ix3 b s ⟨128 * j.val + q.val, by omega⟩) := by
  refine shapeCast_apply _ _ _ _ ?_
  refine (Shape.rowMajor_val_three (d := ![2, 6144, 2048]) _).trans (Eq.trans ?_ (Shape.rowMajor_val_four (d := ![2, 6144, 16, 128]) _).symm)
  show (b.val * 6144 + s.val) * 2048 + (128 * j.val + q.val) = ((b.val * 6144 + s.val) * 16 + j.val) * 128 + q.val
  omega

/-- Every index of a matrix, and of an array of three axes. -/
theorem idx2 {a b : ℕ} (z : (⟨2, ![a, b]⟩ : Shape).Idx) : ∃ (i : Fin a) (j : Fin b), z = ix2 i j :=
  ⟨z 0, z 1, funext fun k => match k with | ⟨0, _⟩ => rfl | ⟨1, _⟩ => rfl⟩
theorem idx3 {a b c : ℕ} (z : (⟨3, ![a, b, c]⟩ : Shape).Idx) : ∃ (i : Fin a) (j : Fin b) (k : Fin c), z = ix3 i j k :=
  ⟨z 0, z 1, z 2, funext fun k => match k with | ⟨0, _⟩ => rfl | ⟨1, _⟩ => rfl | ⟨2, _⟩ => rfl⟩

/-! ## The codes -/

theorem wCodes_at (w : FVec Ideal S16384x2048 .bf16) (h : S128x128x16x128.ShapeCasts S16384x2048) :
    shapeCast S16384x2048 (wClip w) h = fun y : S16384x2048.Idx => wc rInv w (y 0) (y 1) := by
  funext y
  obtain ⟨r, k, rfl⟩ := idx2 y
  rw [rows_at, wClip_at]
  exact congrArg₂ (wc rInv w) (Fin.ext (by show 128 * (r.val / 128) + r.val % 128 = r.val; omega)) (Fin.ext (by show 128 * (k.val / 128) + k.val % 128 = k.val; omega))
theorem dCodes_at (d : FVec Ideal S2x6144x2048 .bf16) (h : S2x6144x16x128.ShapeCasts S2x6144x2048) :
    shapeCast S2x6144x2048 (dClip d) h = fun y : S2x6144x2048.Idx => dc rInv (toTokens d) (tok (y 0) (y 1)) (y 2) := by
  funext y
  obtain ⟨b, s, k, rfl⟩ := idx3 y
  rw [flat_at, dClip_at]
  exact congrArg (dc rInv (toTokens d) (tok b s)) (Fin.ext (by show 128 * (k.val / 128) + k.val % 128 = k.val; omega))

/-! ## Scaled back -/

/-- A product of tiles with a number per tile, -/
theorem back_tiles (x : FVec Ideal S128x128x16x128 .bf16) (v : FVec Ideal S128x16 .f32) (i p : Fin 128) (j : Fin 16) (q : Fin 128) :
    mulf x (broadcastInDim S128x128x16x128 ![0, 1, 2, 3] bcast_S128x1x16x1_S128x128x16x128_0_1_2_3
      (broadcastInDim S128x1x16x1 ![0, 2] bcast_S128x16_S128x1x16x1_0_2 (truncf .bf16 v bitsLt_bf16_f32))) (ix4 i p j q)
      = x (ix4 i p j q) * v (ix2 i j) := by
  pointwise []
/-- and of groups with a number per group. -/
theorem back_groups (x : FVec Ideal S2x6144x16x128 .bf16) (v : FVec Ideal S2x6144x16 .f32) (b : Fin 2) (s : Fin 6144) (j : Fin 16) (q : Fin 128) :
    mulf x (broadcastInDim S2x6144x16x128 ![0, 1, 2, 3] bcast_S2x6144x16x1_S2x6144x16x128_0_1_2_3
      (broadcastInDim S2x6144x16x1 ![0, 1, 2] bcast_S2x6144x16_S2x6144x16x1_0_1_2 (truncf .bf16 v bitsLt_bf16_f32))) (ix4 b s j q)
      = x (ix4 b s j q) * v (ix3 b s j) := by
  pointwise []

theorem wBack_at (x : FVec Ideal S16384x2048 .bf16) (v : FVec Ideal S128x16 .f32) (r : Fin 16384) (k : Fin 2048) :
    wBack x v (ix2 r k) = x (ix2 r k) * v (ix2 ⟨r.val / 128, by omega⟩ ⟨k.val / 128, by omega⟩) := by
  unfold wBack
  rw [rows_at, back_tiles, tiles_at]
  have e0 : (⟨128 * (r.val / 128) + r.val % 128, by omega⟩ : Fin 16384) = r := Fin.ext (by show 128 * (r.val / 128) + r.val % 128 = r.val; omega)
  have e1 : (⟨128 * (k.val / 128) + k.val % 128, by omega⟩ : Fin 2048) = k := Fin.ext (by show 128 * (k.val / 128) + k.val % 128 = k.val; omega)
  exact congrArg (fun z => z * v _) (congrArg₂ (fun a b => x (ix2 a b)) e0 e1)
theorem dBack_at (x : FVec Ideal S2x6144x2048 .bf16) (v : FVec Ideal S2x6144x16 .f32) (b : Fin 2) (s : Fin 6144) (k : Fin 2048) :
    dBack x v (ix3 b s k) = x (ix3 b s k) * v (ix3 b s ⟨k.val / 128, by omega⟩) := by
  unfold dBack
  rw [flat_at, back_groups, groups_at]
  have e1 : (⟨128 * (k.val / 128) + k.val % 128, by omega⟩ : Fin 2048) = k := Fin.ext (by show 128 * (k.val / 128) + k.val % 128 = k.val; omega)
  exact congrArg (fun z => z * v _) (congrArg (fun a => x (ix3 b s a)) e1)

/-! ## The product -/

theorem prod_at (l : FVec Ideal S2x6144x2048 .bf16) (r : FVec Ideal S16384x2048 .bf16) (b : Fin 2) (s : Fin 6144) (o : Fin 16384) :
    prod l r (ix3 b s o) = ∑ k : Fin 2048, l (ix3 b s k) * r (ix2 o k) := by
  pointwise [prod]

/-- The product of the arguments quantised and scaled back is the input gradient. -/
theorem grad_at (w : FVec Ideal S16384x2048 .bf16) (d : FVec Ideal S2x6144x2048 .bf16) (xw : FVec Ideal S16384x2048 .bf16)
    (xd : FVec Ideal S2x6144x2048 .bf16) (hw : xw = fun y : S16384x2048.Idx => wc rInv w (y 0) (y 1))
    (hd : xd = fun y : S2x6144x2048.Idx => dc rInv (toTokens d) (tok (y 0) (y 1)) (y 2)) :
    prod (dBack xd (scl bcast_S_S2x6144x16 (dRatio d))) (wBack xw (scl bcast_S_S128x16 (wRatio w)))
      = fun y : S2x6144x16384.Idx => dx rScale rInv w (toTokens d) (tok (y 0) (y 1)) (y 2) := by
  funext y
  obtain ⟨b, s, o, rfl⟩ := idx3 y
  rw [prod_at]
  unfold dx
  refine Finset.sum_congr rfl fun k _ => ?_
  rw [dBack_at, wBack_at, scl_at, scl_at, dRatio_at, wRatio_at, hw, hd]
  rfl

/-- The scales. -/
theorem wScales_at (w : FVec Ideal S16384x2048 .bf16) : scl bcast_S_S128x16 (wRatio w) = fun y : S128x16.Idx => ws rScale w (y 0) (y 1) := by
  funext y
  obtain ⟨i, j, rfl⟩ := idx2 y
  rw [scl_at, wRatio_at]
  rfl
theorem dScales_at (d : FVec Ideal S2x6144x2048 .bf16) :
    scl bcast_S_S2x6144x16 (dRatio d) = fun y : S2x6144x16.Idx => ds rScale (toTokens d) (tok (y 0) (y 1)) (y 2) := by
  funext y
  obtain ⟨b, s, j, rfl⟩ := idx3 y
  rw [scl_at, dRatio_at]
  rfl

end Cert.ReferenceIdeal.Val

end
-- ==== Proof.RefResults.lean ====
/-
  The reference's five results when it has run, over the extended reals, at an index of each.
-/
module

public import proofs.«01_k».proof.Proof.RefArrays
public import proofs.«01_k».proof.Proof.RefBack

@[expose] public section

set_option maxRecDepth 16384

noncomputable section

namespace Cert.ReferenceIdeal.Gen

open Idealize.ShloMosaic Idealize.ShloMosaic.TcCoe Idealize.ShloMosaic.Tactic
open Cert.ReferenceIdeal.Val Cert.Scale Cert.Spec

variable (m : (ℓ : Loc nD τ sig) → Buf (Elt Ideal) ℓ) (c : Dev nD)

/-- The contents of a buffer that is no array of the launch, after the host operations that follow it. -/
abbrev Tl (b : Ref sig .tc) : Buf (Elt Ideal) ((c.tc : Thread nD τ).loc b) := Pipeline.afterTail₀ cfgs (dats m) 0 (V0 m) [hostOps1] c b

/-- The scales are those found before the launch. -/
theorem tail_v18 : Tl m c main_v18 = V m c main_v18 := by
  unfold Tl Pipeline.afterTail₀
  rw [StableHlo.after_of_forall_not_mem (b := Proc.devRef .tc main_v18) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v18 (by exact (by decide : ∀ w, Pipeline.arrRef spec0 w ≠ main_v18))]
theorem tail_v45 : Tl m c main_v45 = V m c main_v45 := by
  unfold Tl Pipeline.afterTail₀
  rw [StableHlo.after_of_forall_not_mem (b := Proc.devRef .tc main_v45) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v45 (by exact (by decide : ∀ w, Pipeline.arrRef spec0 w ≠ main_v45))]

/-- The product's buffer after the last host operations, from any contents of the buffers before them. -/
theorem after_v68 (W : Valuation τ sig (Elt Ideal)) : StableHlo.after hostOps1 W (Proc.devRef .tc main_v68)
    = prod (dBack (W (Proc.devRef .tc main_v54_3)) (W (Proc.devRef .tc main_v45))) (wBack (W (Proc.devRef .tc main_v54_2)) (W (Proc.devRef .tc main_v18))) := by
  after_results
  rfl

/-- The contents of the buffers between the launch and the last host operations. -/
abbrev Mid : Valuation τ sig (Elt Ideal) := Pipeline.withArrays spec0 c (V0 m c) fun w => (dats m 0 c).arrAt w cfg0.N
theorem mid_v54_2 : Mid m c (Proc.devRef .tc main_v54_2) = (dats m 0 c).arrAt 4 cfg0.N :=
  Pipeline.withArrays_arr spec0 launch0.win.arr_inj c (V0 m c) (fun w => (dats m 0 c).arrAt w cfg0.N) 4
theorem mid_v54_3 : Mid m c (Proc.devRef .tc main_v54_3) = (dats m 0 c).arrAt 5 cfg0.N :=
  Pipeline.withArrays_arr spec0 launch0.win.arr_inj c (V0 m c) (fun w => (dats m 0 c).arrAt w cfg0.N) 5
theorem mid_v18 : Mid m c (Proc.devRef .tc main_v18) = V m c main_v18 :=
  Pipeline.withArrays_of_ne _ c (V0 m c) _ main_v18 (by exact (by decide : ∀ w, Pipeline.arrRef spec0 w ≠ main_v18))
theorem mid_v45 : Mid m c (Proc.devRef .tc main_v45) = V m c main_v45 :=
  Pipeline.withArrays_of_ne _ c (V0 m c) _ main_v45 (by exact (by decide : ∀ w, Pipeline.arrRef spec0 w ≠ main_v45))

/-- The codes that the launch is on. -/
theorem codesW : (V m c main_v26 : S16384x2048.Idx → EReal) = fun y => wc rInv (aW m c) (y 0) (y 1) := (V_v26 m c).trans (wCodes_at _ _)
theorem codesD : (V m c main_v53 : S2x6144x2048.Idx → EReal) = fun y => dc rInv (toTokens (aD m c)) (tok (y 0) (y 1)) (y 2) :=
  (V_v53 m c).trans (dCodes_at _ _)

/-- The product's buffer is the input gradient. -/
theorem tail_v68 : Tl m c main_v68 = fun y : S2x6144x16384.Idx => dx rScale rInv (aW m c) (toTokens (aD m c)) (tok (y 0) (y 1)) (y 2) := by
  refine (after_v68 (Mid m c)).trans ?_
  rw [mid_v54_2, mid_v54_3, mid_v18, mid_v45, V_v18, V_v45]
  exact grad_at _ _ _ _ ((arr4 c m).trans (codesW m c)) ((arr5 c m).trans (codesD m c))

/-- The five results. -/
theorem results (ρ : Dev nD → PrngReg) : θ_run defs (onTc (τ := τ) (main (F := Ideal))) ⟨m, fun _ => 0, ρ⟩ (fun r => ∀ c : Dev nD,
      r.2.mem ((c.tc : Thread nD τ).loc main_v68) = (fun y : S2x6144x16384.Idx => dx rScale rInv (aW m c) (toTokens (aD m c)) (tok (y 0) (y 1)) (y 2))
      ∧ r.2.mem ((c.tc : Thread nD τ).loc main_v54_0) = (fun y : S16384x2048.Idx => wc rInv (aW m c) (y 0) (y 1))
      ∧ r.2.mem ((c.tc : Thread nD τ).loc main_v18) = (fun y : S128x16.Idx => ws rScale (aW m c) (y 0) (y 1))
      ∧ r.2.mem ((c.tc : Thread nD τ).loc main_v54_1) = (fun y : S2x6144x2048.Idx => dc rInv (toTokens (aD m c)) (tok (y 0) (y 1)) (y 2))
      ∧ r.2.mem ((c.tc : Thread nD τ).loc main_v45) = (fun y : S2x6144x16.Idx => ds rScale (toTokens (aD m c)) (tok (y 0) (y 1)) (y 2))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (θ_run_and (run_main m ρ) (unchanged m ρ))
  obtain ⟨h, hu⟩ := h
  refine ⟨?_, ?_, ?_, ?_, ?_, hu c⟩
  · exact ((h c).2 main_v68 (Pipeline.mem_restRefs_of main_v68 (by decide) (by decide))).trans (tail_v68 m c)
  · exact ((h c).1 2).trans ((arr2 c m).trans (codesW m c))
  · exact ((h c).2 main_v18 (Pipeline.mem_restRefs_of main_v18 (by decide) (by decide))).trans ((tail_v18 m c).trans ((V_v18 m c).trans (wScales_at _)))
  · exact ((h c).1 3).trans ((arr3 c m).trans (codesD m c))
  · exact ((h c).2 main_v45 (Pipeline.mem_restRefs_of main_v45 (by decide) (by decide))).trans ((tail_v45 m c).trans ((V_v45 m c).trans (dScales_at _)))

end Cert.ReferenceIdeal.Gen

end
-- ==== Proof.Range.lean ====
/-
  What the precondition says: the arguments' magnitudes are at most the greatest finite number of bf16.
-/
module

public import proofs.«01_k».proof.Pre_in_range
public import proofs.«01_k».proof.Proof.Spec
public import Idealize.ShloMosaic.Lib.ReduceAll

@[expose] public section

noncomputable section

namespace Cert.Pre_in_range

open Idealize.ShloMosaic Cert.Spec

/-- The shapes of the precondition's operations fit. -/
instance facts : Facts where
  bcast_S_S16384x2048 := by decide
  reducesTo_S16384x2048_S_d0_1 := by decide
  h_S_ := by decide
  bcast_S_S2x6144x2048 := by decide
  reducesTo_S2x6144x2048_S_d0_1_2 := by decide

/-- The one index of a number's shape. -/
instance : Subsingleton S_.Idx := ⟨fun _ _ => funext fun a => a.elim0⟩

/-- A comparison with a constant that gives 1 says the order. -/
theorem le_of_cmp {s : Shape} (h : S_.BroadcastsInDim s ![]) (x : FVec Ideal s .bf16) (i : s.Idx)
    (e : cmpf .ole (Host.absf x) (broadcastInDim s ![] h (constant S_ .bf16 0x7F7F#16)) i = 1#1) : max (x i) (-(x i)) ≤ (big : EReal) := by
  rw [← ofBits_big]
  have e' : BitVec.ofBool (decide (max (x i) (-(x i)) ≤ Ideal.ofBits FTy.bf16 0x7F7F#16)) = 1#1 := e
  by_contra hn
  rw [decide_eq_false hn] at e'
  exact absurd e' (by decide)

/-- The precondition bounds both arguments. -/
theorem bounds (x : FVec Ideal S16384x2048 .bf16) (d : FVec Ideal S2x6144x2048 .bf16) (h : fn x d = fun _ => 1#1) :
    (∀ i, max (x i) (-(x i)) ≤ (big : EReal)) ∧ ∀ i, max (d i) (-(d i)) ≤ (big : EReal) := by
  have e := congrFun h (fun a => a.elim0)
  obtain ⟨h1, h2⟩ := IntOp.andi_eq_one.1 e
  exact ⟨fun i => le_of_cmp _ x i (Host.reduce_andi_all _ _ _ _ _ h1 i), fun i => le_of_cmp _ d i (Host.reduce_andi_all _ _ _ _ _ h2 i)⟩

end Cert.Pre_in_range

end
-- ==== Proof.Equation.lean ====
/-
  The equation of kernel and reference: on equal arguments in range they end with equal results, all five of them.
-/
module

public import proofs.«01_k».proof.Defs
public import proofs.«01_k».proof.Proof.KernelResults
public import proofs.«01_k».proof.Proof.RefResults
public import proofs.«01_k».proof.Proof.Range

@[expose] public section

set_option maxRecDepth 16384

noncomputable section

namespace Cert

open Idealize.ShloMosaic Idealize.ShloMosaic.TcCoe Cert.Spec Cert.Scale

/-- The second argument's tokens in rows have its bound. -/
theorem tokens_bound (D : SB.Idx → EReal) (h : ∀ i, max (D i) (-(D i)) ≤ (big : EReal)) (z : ST.Idx) :
    max (toTokens D z) (-(toTokens D z)) ≤ (big : EReal) := h _

/-- The kernel over the extended reals, in range, ends with the reference's five results. -/
theorem algebraic : algebraic_KernelIdeal_ReferenceIdeal_pre_in_range := by
  intro m g m' g' hP hm
  have hW := fun c => (Pre_in_range.bounds _ _ (hP c)).1
  have hT := fun c => tokens_bound _ (Pre_in_range.bounds _ _ (hP c)).2
  refine ⟨fun c => fun y : KernelIdeal.S2x6144x16384.Idx => dx kScale kInv (KernelIdeal.Gen.aW m c) (KernelIdeal.Gen.aT m c) (tok (y 0) (y 1)) (y 2),
    fun c => fun y : KernelIdeal.S16384x2048.Idx => wc kInv (KernelIdeal.Gen.aW m c) (y 0) (y 1),
    fun c => fun y : KernelIdeal.S128x16.Idx => ws kScale (KernelIdeal.Gen.aW m c) (y 0) (y 1),
    fun c => fun y : KernelIdeal.S2x6144x2048.Idx => dc kInv (KernelIdeal.Gen.aT m c) (tok (y 0) (y 1)) (y 2),
    fun c => fun y : KernelIdeal.S2x6144x16.Idx => ds kScale (KernelIdeal.Gen.aT m c) (tok (y 0) (y 1)) (y 2),
    KernelIdeal.Gen.results m g, ?_⟩
  refine (θ_run _ _ _).mono (fun r h c => ?_) (ReferenceIdeal.Gen.results m' g')
  obtain ⟨h0, h1, h2, h3, h4, ha, hd⟩ := h c
  have eW : ReferenceIdeal.Gen.aW m' c = KernelIdeal.Gen.aW m c := (hm c).1
  have eT : toTokens (ReferenceIdeal.Gen.aD m' c) = KernelIdeal.Gen.aT m c := congrArg toTokens (hm c).2
  rw [eW, eT] at h0
  rw [eW] at h1 h2
  rw [eT] at h3 h4
  refine ⟨h0.trans ?_, h1.trans ?_, h2.trans ?_, h3.trans ?_, h4.trans ?_, ha, hd⟩
  · exact congrArg (fun (f : Fin 12288 → Fin 16384 → EReal) (y : ReferenceIdeal.S2x6144x16384.Idx) => f (tok (y 0) (y 1)) (y 2)) (dx_eq _ _ (hW c) (hT c)).symm
  · exact congrArg (fun (f : Fin 16384 → Fin 2048 → EReal) (y : ReferenceIdeal.S16384x2048.Idx) => f (y 0) (y 1)) (wc_eq _ (hW c)).symm
  · exact congrArg (fun (f : Fin 128 → Fin 16 → EReal) (y : ReferenceIdeal.S128x16.Idx) => f (y 0) (y 1)) (ws_eq _ (hW c)).symm
  · exact congrArg (fun (f : Fin 12288 → Fin 2048 → EReal) (y : ReferenceIdeal.S2x6144x2048.Idx) => f (tok (y 0) (y 1)) (y 2)) (dc_eq _ (hT c)).symm
  · exact congrArg (fun (f : Fin 12288 → Fin 16 → EReal) (y : ReferenceIdeal.S2x6144x16.Idx) => f (tok (y 0) (y 1)) (y 2)) (ds_eq _ (hT c)).symm

end Cert

end
-- ==== Proof.lean ====
/-
  The claims of Defs.lean, each with the theorem that proves it.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelMirror
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claims of Defs.lean: the three programs run and leave their arguments as they were, with every semaphore at zero
    again; and over the extended reals the kernel's five results are the reference's, on arguments in range. -/
theorem claim : Cert.Claim := ⟨Cert.Kernel.Gen.facts, Cert.KernelIdeal.Gen.facts, Cert.ReferenceIdeal.Gen.facts, Cert.Pre_in_range.facts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, Cert.algebraic⟩

end Cert.Proof

end
